-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gamma_finite [hPre_gamma_finite : Cert.Pre_gamma_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gamma_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gamma_finite [hPre_gamma_finite : Cert.Pre_gamma_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gamma_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_gamma_finite [hKernelIdeal : Cert.KernelIdeal.Facts] [hPre_gamma_finite : Cert.Pre_gamma_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gamma_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_gamma_finite [hReferenceIdeal : Cert.ReferenceIdeal.Facts] [hPre_gamma_finite : Cert.Pre_gamma_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gamma_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5))
      ∧ r.2.sem = fun _ => 0)

def preserves_Kernel_KernelIdeal : Prop :=
  IdealRules.named_const.Statement Cert.KernelIdeal.κ "inv_d" .f32 0x394CCCCD#32 ((1 / 5120 : ℝ) : EReal)

def preserves_Reference_ReferenceIdeal : Prop :=
  IdealRules.named_const.Statement Cert.ReferenceIdeal.κ "ln2" .f32 0x3F317218#32 ((Real.log 2 : ℝ) : EReal)

def algebraic_KernelIdeal_ReferenceIdeal_pre_gamma_finite [hKernelIdeal : Cert.KernelIdeal.Facts] [hReferenceIdeal : Cert.ReferenceIdeal.Facts] [hPre_gamma_finite : Cert.Pre_gamma_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gamma_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hReference : Cert.Reference.Facts) (hPre_gamma_finite : Cert.Pre_gamma_finite.Facts),
    quiescent_Kernel (hKernel := hKernel)
    ∧ quiescent_KernelIdeal (hKernelIdeal := hKernelIdeal)
    ∧ quiescent_KernelIdeal_pre_gamma_finite (hKernelIdeal := hKernelIdeal) (hPre_gamma_finite := hPre_gamma_finite)
    ∧ quiescent_ReferenceIdeal (hReferenceIdeal := hReferenceIdeal)
    ∧ quiescent_ReferenceIdeal_pre_gamma_finite (hReferenceIdeal := hReferenceIdeal) (hPre_gamma_finite := hPre_gamma_finite)
    ∧ quiescent_Reference (hReference := hReference)
    ∧ preserves_Kernel_KernelIdeal
    ∧ preserves_Reference_ReferenceIdeal
    ∧ algebraic_KernelIdeal_ReferenceIdeal_pre_gamma_finite (hKernelIdeal := hKernelIdeal) (hReferenceIdeal := hReferenceIdeal) (hPre_gamma_finite := hPre_gamma_finite)
-- ==== Pre_gamma_finite.lean ====
abbrev S4x1536x2560 : Shape := ⟨3, ![4, 1536, 2560]⟩
abbrev S4x1536x1 : Shape := ⟨3, ![4, 1536, 1]⟩
abbrev S2560x5120 : Shape := ⟨2, ![2560, 5120]⟩
abbrev S5120 : Shape := ⟨1, ![5120]⟩
abbrev S4x1536x5120 : Shape := ⟨3, ![4, 1536, 5120]⟩
abbrev S_ : Shape := ⟨0, ![]⟩

class Facts : Prop where
  bcast_S_S5120 : S_.BroadcastsInDim S5120 (![] : Fin 0 → Fin S5120.rank)

variable [Facts]

def fn {F : FTy → Type} [FloatOps F] (main_arg0 : FVec F S4x1536x2560 .fp8e4m3) (main_arg1 : FVec F S4x1536x1 .f32) (main_arg2 : FVec F S2560x5120 .fp8e4m3) (main_arg3 : FVec F S5120 .f32) (main_arg4 : FVec F S4x1536x5120 .bf16) (main_arg5 : FVec F S5120 .bf16) : IVec S5120 1 :=
  let main_v0 : FVec F S5120 .bf16 := Host.absf main_arg5
  let main_cst : FVec F S_ .bf16 := constant S_ .bf16 0x7F7F#16
  let main_v1 : FVec F S5120 .bf16 := broadcastInDim S5120 ![] bcast_S_S5120 main_cst
  let main_v2 : IVec S5120 1 := cmpf .ole main_v0 main_v1
  main_v2
-- ==== Kernel.lean ====
abbrev S4x1536x2560 : Shape := ⟨3, ![4, 1536, 2560]⟩
abbrev S4x1536x1 : Shape := ⟨3, ![4, 1536, 1]⟩
abbrev S2560x5120 : Shape := ⟨2, ![2560, 5120]⟩
abbrev S5120 : Shape := ⟨1, ![5120]⟩
abbrev S4x1536x5120 : Shape := ⟨3, ![4, 1536, 5120]⟩
abbrev S6144x2560 : Shape := ⟨2, ![6144, 2560]⟩
abbrev S24x1x256 : Shape := ⟨3, ![24, 1, 256]⟩
abbrev S1x5120 : Shape := ⟨2, ![1, 5120]⟩
abbrev S6144x5120 : Shape := ⟨2, ![6144, 5120]⟩
abbrev S256x2560 : Shape := ⟨2, ![256, 2560]⟩
abbrev S1x1x256 : Shape := ⟨3, ![1, 1, 256]⟩
abbrev S256x5120 : Shape := ⟨2, ![256, 5120]⟩
abbrev S1x256 : Shape := ⟨2, ![1, 256]⟩
abbrev S1x128 : Shape := ⟨2, ![1, 128]⟩
abbrev S128x128 : Shape := ⟨2, ![128, 128]⟩
abbrev S256x128 : Shape := ⟨2, ![256, 128]⟩
abbrev S256x512 : Shape := ⟨2, ![256, 512]⟩
abbrev S2560x512 : Shape := ⟨2, ![2560, 512]⟩
abbrev S1x512 : Shape := ⟨2, ![1, 512]⟩
abbrev S256 : Shape := ⟨1, ![256]⟩
abbrev S256x1 : Shape := ⟨2, ![256, 1]⟩
abbrev S1x1x128 : Shape := ⟨3, ![1, 1, 128]⟩

abbrev nBuf : Space → Nat
  | .hbm => 14
  | .vmem => 15
  | .smem => 0
  | _ => 0

abbrev bufTy : (tb : Table) → Fin (tcTables nBuf tb) → BufTy
  | .hbm, ⟨0, _⟩ => ⟨S4x1536x2560, .fp8e4m3⟩
  | .hbm, ⟨1, _⟩ => ⟨S4x1536x1, .f32⟩
  | .hbm, ⟨2, _⟩ => ⟨S2560x5120, .fp8e4m3⟩
  | .hbm, ⟨3, _⟩ => ⟨S5120, .f32⟩
  | .hbm, ⟨4, _⟩ => ⟨S4x1536x5120, .bf16⟩
  | .hbm, ⟨5, _⟩ => ⟨S5120, .bf16⟩
  | .hbm, ⟨6, _⟩ => ⟨S6144x2560, .fp8e4m3⟩
  | .hbm, ⟨7, _⟩ => ⟨S24x1x256, .f32⟩
  | .hbm, ⟨8, _⟩ => ⟨S1x5120, .f32⟩
  | .hbm, ⟨9, _⟩ => ⟨S6144x5120, .bf16⟩
  | .hbm, ⟨10, _⟩ => ⟨S1x5120, .bf16⟩
  | .hbm, ⟨11, _⟩ => ⟨S6144x5120, .bf16⟩
  | .hbm, ⟨12, _⟩ => ⟨S6144x5120, .fp8e4m3⟩
  | .hbm, ⟨13, _⟩ => ⟨S24x1x256, .f32⟩
  | .local _ .vmem, ⟨0, _⟩ => ⟨S256x2560, .fp8e4m3⟩
  | .local _ .vmem, ⟨1, _⟩ => ⟨S256x2560, .fp8e4m3⟩
  | .local _ .vmem, ⟨2, _⟩ => ⟨S1x1x256, .f32⟩
  | .local _ .vmem, ⟨3, _⟩ => ⟨S1x1x256, .f32⟩
  | .local _ .vmem, ⟨4, _⟩ => ⟨S2560x5120, .fp8e4m3⟩
  | .local _ .vmem, ⟨5, _⟩ => ⟨S1x5120, .f32⟩
  | .local _ .vmem, ⟨6, _⟩ => ⟨S256x5120, .bf16⟩
  | .local _ .vmem, ⟨7, _⟩ => ⟨S256x5120, .bf16⟩
  | .local _ .vmem, ⟨8, _⟩ => ⟨S1x5120, .bf16⟩
  | .local _ .vmem, ⟨9, _⟩ => ⟨S256x5120, .bf16⟩
  | .local _ .vmem, ⟨10, _⟩ => ⟨S256x5120, .bf16⟩
  | .local _ .vmem, ⟨11, _⟩ => ⟨S256x5120, .fp8e4m3⟩
  | .local _ .vmem, ⟨12, _⟩ => ⟨S256x5120, .fp8e4m3⟩
  | .local _ .vmem, ⟨13, _⟩ => ⟨S1x1x256, .f32⟩
  | .local _ .vmem, ⟨14, _⟩ => ⟨S1x1x256, .f32⟩
  | _, _ => ⟨S4x1536x2560, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x2560 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2560x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x5120 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x5120 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x5120 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x5120 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "inv_d" => some ((1 / 5120 : ℝ) : EReal)
  | _ => none
-- ==== ReferenceIdeal.lean ====
variable {F : FTy → Type} [FloatOps F] [Named F]
def κ : String → Option EReal := fun
  | "ln2" => some ((Real.log 2 : ℝ) : EReal)
  | _ => none
-- ==== Reference.lean ====
abbrev S4x1536x2560 : Shape := ⟨3, ![4, 1536, 2560]⟩
abbrev S4x1536x1 : Shape := ⟨3, ![4, 1536, 1]⟩
abbrev S2560x5120 : Shape := ⟨2, ![2560, 5120]⟩
abbrev S5120 : Shape := ⟨1, ![5120]⟩
abbrev S4x1536x5120 : Shape := ⟨3, ![4, 1536, 5120]⟩
abbrev S6144x5120 : Shape := ⟨2, ![6144, 5120]⟩
abbrev S24x1x256 : Shape := ⟨3, ![24, 1, 256]⟩
abbrev S6144x2560 : Shape := ⟨2, ![6144, 2560]⟩
abbrev S6144x1 : Shape := ⟨2, ![6144, 1]⟩
abbrev S1x5120 : Shape := ⟨2, ![1, 5120]⟩
abbrev S6144 : Shape := ⟨1, ![6144]⟩

abbrev nBuf : Space → Nat
  | .hbm => 9
  | .vmem => 9
  | .smem => 0
  | _ => 0

abbrev bufTy : (tb : Table) → Fin (tcTables nBuf tb) → BufTy
  | .hbm, ⟨0, _⟩ => ⟨S4x1536x2560, .fp8e4m3⟩
  | .hbm, ⟨1, _⟩ => ⟨S4x1536x1, .f32⟩
  | .hbm, ⟨2, _⟩ => ⟨S2560x5120, .fp8e4m3⟩
  | .hbm, ⟨3, _⟩ => ⟨S5120, .f32⟩
  | .hbm, ⟨4, _⟩ => ⟨S4x1536x5120, .bf16⟩
  | .hbm, ⟨5, _⟩ => ⟨S5120, .bf16⟩
  | .hbm, ⟨6, _⟩ => ⟨S6144x5120, .bf16⟩
  | .hbm, ⟨7, _⟩ => ⟨S6144x5120, .fp8e4m3⟩
  | .hbm, ⟨8, _⟩ => ⟨S24x1x256, .f32⟩
  | .local _ .vmem, ⟨0, _⟩ => ⟨S4x1536x2560, .fp8e4m3⟩
  | .local _ .vmem, ⟨1, _⟩ => ⟨S4x1536x1, .f32⟩
  | .local _ .vmem, ⟨2, _⟩ => ⟨S2560x5120, .fp8e4m3⟩
  | .local _ .vmem, ⟨3, _⟩ => ⟨S5120, .f32⟩
  | .local _ .vmem, ⟨4, _⟩ => ⟨S4x1536x5120, .bf16⟩
  | .local _ .vmem, ⟨5, _⟩ => ⟨S5120, .bf16⟩
  | .local _ .vmem, ⟨6, _⟩ => ⟨S6144x5120, .bf16⟩
  | .local _ .vmem, ⟨7, _⟩ => ⟨S6144x5120, .fp8e4m3⟩
  | .local _ .vmem, ⟨8, _⟩ => ⟨S24x1x256, .f32⟩
  | _, _ => ⟨S4x1536x2560, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S4x1536x2560 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x1536x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2560x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x1536x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5120 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6144x5120 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6144x5120 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S24x1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Chain.lean ====
module

public import proofs.«01_k».proof.Proof.Gen.KernelIdeal.Value

/-! The kernel's straight-line code regrouped: the same operations, written once per repeated step.
Every equation here holds by unfolding both sides. -/

@[expose] public section

set_option maxRecDepth 16384

noncomputable section

open Idealize.ShloMosaic Idealize.ShloMosaic.TcCoe Idealize.SL.Sem
open Cert.KernelIdeal Cert.KernelIdeal.Gen

namespace Cert.KernelIdeal.Value

variable {F : FTy → Type} [FloatOps F] [Named F]

/-! ## Squares -/

/-- The squares of one 512-column tile added, lane group by lane group, to the running sums. -/
def sqAdd (acc : FVec F S256x128 .f32) (h : FVec F S256x512 .bf16) : FVec F S256x128 .f32 :=
  have f : FVec F S256x512 .f32 := extf .f32 h bitsLt_bf16_f32
  have q : FVec F S256x512 .f32 := mulf f f
  addf (addf (addf (addf acc
    (extractStridedSlice S256x128 ![0, 0] q slices_S256x512_o0_0_S256x128))
    (extractStridedSlice S256x128 ![0, 128] q slices_S256x512_o0_128_S256x128))
    (extractStridedSlice S256x128 ![0, 256] q slices_S256x512_o0_256_S256x128))
    (extractStridedSlice S256x128 ![0, 384] q slices_S256x512_o0_384_S256x128)

/-- The running sums before the first tile. -/
def zeros : FVec F S256x128 .f32 := broadcast S256x128 (Scalar.ofBits .f32 0x00000000#32)

/-- The running sums' lanes added up, times the constant 1/5120. -/
def meanOf (acc : FVec F S256x128 .f32) : FVec F S256x1 .f32 :=
  mulf (shapeCast S256x1 (multiReduction .add [1] S256 acc 0x00000000#32 reduces_S256x128_S256 (.inl rfl) rfl)
    shapeCasts_S256_S256x1) (broadcast S256x1 (Named.named κ "inv_d" 0x394CCCCD#32))

/-- The mean square as the body computes it is the ten tiles' squares added one after the other. -/
theorem mean_chain (v0 : Vec F S1x1x256 .f32) (v13 : Vec F S256x2560 .fp8e4m3)
    (w0 w1 w2 w3 w4 w5 w6 w7 w8 w9 : Vec F S2560x512 .fp8e4m3)
    (s0 s1 s2 s3 s4 s5 s6 s7 s8 s9 : Vec F S1x512 .f32)
    (r0 r1 r2 r3 r4 r5 r6 r7 r8 r9 : Vec F S256x512 .bf16) :
    k0_pay26 (k0_pay3 v0) (k0_pay4 v13)
      (k0_pay22 (k0_pay3 v0) (k0_pay4 v13)
        (k0_pay19 (k0_pay3 v0) (k0_pay4 v13)
          (k0_pay14 (k0_pay3 v0) (k0_pay4 v13)
            (k0_pay11 (k0_pay3 v0) (k0_pay4 v13) (k0_pay6 v0 v13 w0 s0 r0) (k0_pay7 v13 w1) s1 r1 w2 s2 r2)
            (k0_pay12 (k0_pay3 v0) (k0_pay4 v13) w2 s2 r2) w3 s3 r3)
          (k0_pay16 (k0_pay3 v0) (k0_pay4 v13) w4 s4 r4) (k0_pay17 (k0_pay3 v0) (k0_pay4 v13) w4 s4 r4) w5 s5 r5)
        (k0_pay20 (k0_pay3 v0) (k0_pay4 v13) w6 s6 r6) w7 s7 r7)
      (k0_pay23 (k0_pay3 v0) (k0_pay4 v13) w8 s8) r8 w9 s9 r9
    = meanOf (sqAdd (sqAdd (sqAdd (sqAdd (sqAdd (sqAdd (sqAdd (sqAdd (sqAdd (sqAdd zeros
        (k0_pay9 (k0_pay3 v0) (k0_pay4 v13) w0 s0 r0))
        (k0_pay9 (k0_pay3 v0) (k0_pay4 v13) w1 s1 r1))
        (k0_pay9 (k0_pay3 v0) (k0_pay4 v13) w2 s2 r2))
        (k0_pay9 (k0_pay3 v0) (k0_pay4 v13) w3 s3 r3))
        (k0_pay9 (k0_pay3 v0) (k0_pay4 v13) w4 s4 r4))
        (k0_pay9 (k0_pay3 v0) (k0_pay4 v13) w5 s5 r5))
        (k0_pay9 (k0_pay3 v0) (k0_pay4 v13) w6 s6 r6))
        (k0_pay9 (k0_pay3 v0) (k0_pay4 v13) w7 s7 r7))
        (k0_pay9 (k0_pay3 v0) (k0_pay4 v13) w8 s8 r8))
        (k0_pay9 (k0_pay3 v0) (k0_pay4 v13) w9 s9 r9)) := rfl

/-! ## Tiles of the sum of residual and product -/

/-- The first tile is the tile of the third kind. -/
theorem tile0 (v0 : Vec F S1x1x256 .f32) (v13 : Vec F S256x2560 .fp8e4m3) (w : Vec F S2560x512 .fp8e4m3)
    (s : Vec F S1x512 .f32) (r : Vec F S256x512 .bf16) :
    k0_pay5 v0 v13 w s r = k0_pay9 (k0_pay3 v0) (k0_pay4 v13) w s r := rfl

/-- So is the second. -/
theorem tile1 (a : FVec F S256x512 .f32) (v13 : Vec F S256x2560 .fp8e4m3) (w : Vec F S2560x512 .fp8e4m3)
    (s : Vec F S1x512 .f32) (r : Vec F S256x512 .bf16) :
    k0_pay8 a (k0_pay7 v13 w) s r = k0_pay9 a (k0_pay4 v13) w s r := rfl

section
variable (a : FVec F S256x512 .f32) (x : FVec F S256x2560 .fp8e4m3) (w : Vec F S2560x512 .fp8e4m3)
  (s : Vec F S1x512 .f32) (r : Vec F S256x512 .bf16)
/-- So is the fourth. -/
theorem tile3 : k0_pay13 a x w s r = k0_pay9 a x w s r := rfl
/-- So is the fifth. -/
theorem tile4 : k0_pay15 a x w s r = k0_pay9 a x w s r := rfl
/-- So is the sixth. -/
theorem tile5 : k0_pay18 a x w s r = k0_pay9 a x w s r := rfl
/-- So is the seventh. -/
theorem tile6 : k0_pay20 a x w s r = k0_pay9 a x w s r := rfl
/-- So is the eighth. -/
theorem tile7 : k0_pay21 a x w s r = k0_pay9 a x w s r := rfl
/-- So is the ninth. -/
theorem tile8 : k0_pay24 (k0_pay23 a x w s) r = k0_pay9 a x w s r := rfl
/-- So is the tenth. -/
theorem tile9 : k0_pay25 a x w s r = k0_pay9 a x w s r := rfl
end

/-! ## Largest magnitudes -/

/-- The magnitudes of one tile of the normalised values. -/
def absTile (R : FVec F S256x512 .f32) (h : FVec F S256x512 .bf16) (g : FVec F S1x512 .bf16) : FVec F S256x512 .f32 :=
  absf (mulf (mulf (extf .f32 (shapeCast S256x512 h shapeCasts_S256x512_S256x512) bitsLt_bf16_f32) R)
    (broadcastTo S256x512 (extf .f32 (shapeCast S1x512 g shapeCasts_S1x512_S1x512) bitsLt_bf16_f32)
      broadcasts_S1x512_S256x512))

/-- One tile's lane groups folded into the running maxima. -/
def maxAdd (acc : FVec F S256x128 .f32) (q : FVec F S256x512 .f32) : FVec F S256x128 .f32 :=
  maximumf (maximumf (maximumf (maximumf acc
    (extractStridedSlice S256x128 ![0, 0] q slices_S256x512_o0_0_S256x128))
    (extractStridedSlice S256x128 ![0, 128] q slices_S256x512_o0_128_S256x128))
    (extractStridedSlice S256x128 ![0, 256] q slices_S256x512_o0_256_S256x128))
    (extractStridedSlice S256x128 ![0, 384] q slices_S256x512_o0_384_S256x128)

/-- The largest lane of the running maxima, on every lane, times the constant nearest to 1/448. -/
def quotOf (acc : FVec F S256x128 .f32) : FVec F S256x128 .f32 :=
  mulf (broadcastTo S256x128 (shapeCast S256x1 (shapeCast S256x1
    (multiReduction .maximumf [1] S256 acc 0xFF800000#32 reduces_S256x128_S256 (.inl rfl) rfl)
    shapeCasts_S256_S256x1) shapeCasts_S256x1_S256x1) broadcasts_S256x1_S256x128)
    (broadcast S256x128 (Scalar.ofBits .f32 0x3B124925#32))

/-- The quotient as the body computes it is the ten tiles' magnitudes folded one after the other. -/
theorem quot_chain (A E : FVec F S256x1 .f32)
    (h0 h1 h2 h3 h4 h5 h6 h7 h8 h9 : Vec F S256x512 .bf16) (g0 g1 g2 g3 g4 g5 g6 g7 g8 g9 : Vec F S1x512 .bf16) :
    k0_pay35 (k0_pay28 A E) (k0_pay32 (k0_pay28 A E) h7 g7)
      (k0_pay33 (k0_pay28 A E)
        (k0_pay31 (k0_pay28 A E) (k0_pay29 A E h0 g0 h1 g1) (k0_pay30 A E h2) g2 h3 g3 h4 g4)
        h5 g5 h6 g6 h7 g7)
      (k0_pay34 (k0_pay28 A E) h7 g7) h8 g8 h9 g9
    = quotOf (maxAdd (maxAdd (maxAdd (maxAdd (maxAdd (maxAdd (maxAdd (maxAdd (maxAdd (maxAdd zeros
        (absTile (k0_pay28 A E) h0 g0)) (absTile (k0_pay28 A E) h1 g1)) (absTile (k0_pay28 A E) h2 g2))
        (absTile (k0_pay28 A E) h3 g3)) (absTile (k0_pay28 A E) h4 g4)) (absTile (k0_pay28 A E) h5 g5))
        (absTile (k0_pay28 A E) h6 g6)) (absTile (k0_pay28 A E) h7 g7)) (absTile (k0_pay28 A E) h8 g8))
        (absTile (k0_pay28 A E) h9 g9)) := rfl

/-! ## The exponent search -/

/-- One step of the search on every lane. -/
def vstep (q : FVec F S256x128 .f32) (bit : BitVec 32) (e : IVec S256x128 32) : IVec S256x128 32 :=
  select (cmpf .oge q (bitcastToFloat .f32 (shli (addi e (broadcast S256x128 bit)) (broadcast S256x128 23#32))))
    (addi e (broadcast S256x128 bit)) e

/-- All eight steps. -/
def vfield (q : FVec F S256x128 .f32) : IVec S256x128 32 :=
  vstep q 1#32 (vstep q 2#32 (vstep q 4#32 (vstep q 8#32 (vstep q 16#32 (vstep q 32#32 (vstep q 64#32
    (vstep q 128#32 (broadcast S256x128 0#32))))))))

/-- The search as the body runs it is the eight steps. -/
theorem field_chain (q : FVec F S256x128 .f32) :
    k0_pay40 q (k0_pay38 q k0_pay36 k0_pay37) (k0_pay39 q k0_pay36 k0_pay37) = vfield q := rfl

/-- Where the field is 0 or 255. -/
def vedge (e : IVec S256x128 32) : IVec S256x128 1 :=
  ori (cmpi .eq e (broadcast S256x128 0#32)) (cmpi .eq e (broadcast S256x128 255#32))

/-- The float with a given exponent field, on every lane. -/
def vpow (e : IVec S256x128 32) : FVec F S256x128 .f32 := bitcastToFloat .f32 (shli e (broadcast S256x128 23#32))

/-- The scale from the field. -/
theorem scale_chain (q : FVec F S256x128 .f32) :
    k0_pay42 q (k0_pay38 q k0_pay36 k0_pay37) (k0_pay39 q k0_pay36 k0_pay37)
      = vpow (select (vedge (vfield q)) (broadcast S256x128 127#32) (addi (vfield q) (broadcast S256x128 1#32))) := rfl

/-- The inverse scale from the field. -/
theorem inv_chain (q : FVec F S256x128 .f32) :
    k0_pay43 q (k0_pay38 q k0_pay36 k0_pay37) (k0_pay39 q k0_pay36 k0_pay37)
      = vpow (select (vedge (vfield q)) (broadcast S256x128 127#32) (subi (broadcast S256x128 253#32) (vfield q))) := rfl

/-! ## Tiles of the codes -/

section
variable (R I : FVec F S256x512 .f32) (h : Vec F S256x512 .bf16) (g : Vec F S1x512 .bf16) (i : FVec F S256x128 .f32)
/-- The first tile of codes is the tile of the third kind. -/
theorem code0 : k0_pay47 R i h g = k0_pay50 R (k0_pay46 i) h g := rfl
/-- So is the second. -/
theorem code1 : k0_pay49 (k0_pay48 R i h g) = k0_pay50 R (k0_pay46 i) h g := rfl
/-- So is the fourth. -/
theorem code3 : k0_pay51 R I h g = k0_pay50 R I h g := rfl
/-- So is the fifth. -/
theorem code4 : k0_pay52 R I h g = k0_pay50 R I h g := rfl
/-- So is the sixth. -/
theorem code5 : k0_pay53 R I h g = k0_pay50 R I h g := rfl
/-- So is the seventh. -/
theorem code6 : k0_pay55 I (k0_pay54 R h) g = k0_pay50 R I h g := rfl
/-- So is the eighth. -/
theorem code7 : k0_pay56 R I h g = k0_pay50 R I h g := rfl
/-- So is the ninth. -/
theorem code8 : k0_pay1 (k0_pay57 R I h g) k0_pay58 = k0_pay50 R I h g := rfl
/-- So is the tenth. -/
theorem code9 : k0_pay2 R I h g = k0_pay50 R I h g := rfl
end

end Cert.KernelIdeal.Value

end
-- ==== Proof.RowMath.lean ====
module

public import Idealize.ShloMosaic.Lib.Pointwise

/-! One token's mathematics over the extended reals: the mean square, the norm, the largest
magnitude, the quotient, and the two ways of reading a power of two off that quotient. -/

@[expose] public section

noncomputable section

open Idealize.ShloMosaic

namespace Cert.Row

/-- The mean of the squares of a row of 5120 values. -/
def meanSq (h : Fin 5120 → EReal) : EReal := (∑ j, h j * h j) * ((1 / 5120 : ℝ) : EReal)

/-- The reciprocal square root of the mean square plus the small constant. -/
def invRms (h : Fin 5120 → EReal) : EReal :=
  Ideal.rsqrt (meanSq h + Ideal.ofBits .f32 0x3727C5AC#32)

/-- The normalised row, weighted by `g`. -/
def normed (h g : Fin 5120 → EReal) (j : Fin 5120) : EReal := h j * invRms h * g j

/-- The largest magnitude in the normalised row. -/
def absMax (h g : Fin 5120 → EReal) : EReal :=
  Finset.fold max ⊥ (fun j => max (normed h g j) (-normed h g j)) Finset.univ

/-- The largest magnitude over 448, as the multiplication by the constant nearest to 1/448. -/
def quot (h g : Fin 5120 → EReal) : EReal := absMax h g * Ideal.ofBits .f32 0x3B124925#32

/-- The exponent of the scale as the reference states it: zero below the smallest normal number,
    else one more than the floor of the base-two logarithm. -/
def expo (q : EReal) : EReal :=
  if q < Ideal.ofBits .f32 0x00800000#32 then 0
  else Ideal.liftRound Int.floor (Ideal.div (Ideal.log q) ((Real.log 2 : ℝ) : EReal)) + 1

/-- A code before its cast: the scaled value clamped to the range of the format. -/
def code (n s : EReal) : EReal :=
  min (Ideal.ofBits .f32 0x43E00000#32) (max (Ideal.ofBits .f32 0xC3E00000#32) (n * s))

/-- The float whose exponent field is `e` and whose other bits are zero. -/
def pow (e : BitVec 32) : EReal := Ideal.ofBits .f32 (e <<< 23)

/-- One step of the kernel's search for the exponent field of `q`: `bit` is kept when the power of
    two it makes does not exceed `q`. -/
def step (q : EReal) (bit e : BitVec 32) : BitVec 32 := if pow (e + bit) ≤ q then e + bit else e

/-- The exponent field of `q`, found bit by bit from the top. -/
def field (q : EReal) : BitVec 32 :=
  step q 1 (step q 2 (step q 4 (step q 8 (step q 16 (step q 32 (step q 64 (step q 128 0)))))))

/-- The kernel's scale: one where the field is 0 or 255, else the power of two above `q`. -/
def scale (q : EReal) : EReal :=
  pow (if field q = 0 ∨ field q = 255 then 127 else field q + 1)

/-- The kernel's inverse scale. -/
def inv (q : EReal) : EReal :=
  pow (if field q = 0 ∨ field q = 255 then 127 else 253 - field q)

/-! ## The exponent search -/

/-- The sign bit, the exponent field and the mantissa of a word with only an exponent field. -/
theorem word_fields : ∀ n : Fin 256,
    ((BitVec.ofNat 32 n.val <<< 23).extractLsb' 31 1 == 1#1) = false
    ∧ ((BitVec.ofNat 32 n.val <<< 23).extractLsb' 23 8).toNat = n.val
    ∧ ((BitVec.ofNat 32 n.val <<< 23).extractLsb' 0 23).toNat = 0 := by
  decide +kernel

/-- The same number with and without its mantissa's leading bit written out. -/
theorem pow_real (n : ℤ) :
    (1 : ℝ) * ((8388608 + 0 : ℕ) : ℝ) * 2 ^ (n - (2 ^ 7 - 1) - ((23 : ℕ) : ℤ)) = 2 ^ (n - 127) := by
  have e : n - 127 = 23 + (n - (2 ^ 7 - 1) - ((23 : ℕ) : ℤ)) := by push_cast; ring
  have h : (2 : ℝ) ^ (n - 127) = 2 ^ (23 : ℤ) * 2 ^ (n - (2 ^ 7 - 1) - ((23 : ℕ) : ℤ)) := by
    rw [← zpow_add₀ (by norm_num : (2 : ℝ) ≠ 0), ← e]
  rw [h, show ((8388608 + 0 : ℕ) : ℝ) = 2 ^ (23 : ℤ) by norm_num, one_mul]

/-- A float with exponent field `n`, neither 0 nor 255, and no other bit is `2 ^ (n - 127)`. -/
theorem pow_ofNat (n : ℕ) (h0 : 0 < n) (h1 : n < 255) :
    pow (BitVec.ofNat 32 n) = (((2 : ℝ) ^ ((n : ℤ) - 127) : ℝ) : EReal) := by
  obtain ⟨e1, e2, e3⟩ := word_fields ⟨n, by omega⟩
  have hn : ¬ n = 255 := by omega
  have hz : ¬ n = 0 := by omega
  unfold pow Ideal.ofBits Ideal.ieee
  simp only [Nat.reduceAdd, Nat.reducePow, Nat.reduceSub] at e1 e2 e3 ⊢
  simp only [e1, e2, e3, hn, hz, if_false, Bool.false_eq_true]
  exact congrArg _ (pow_real _)

/-- The word with exponent field 255 and no other bit is infinity. -/
theorem pow_255 : pow (BitVec.ofNat 32 255) = ⊤ := by
  obtain ⟨e1, e2, e3⟩ := word_fields ⟨255, by omega⟩
  unfold pow Ideal.ofBits Ideal.ieee
  simp only [Nat.reduceAdd, Nat.reducePow, Nat.reduceSub] at e1 e2 e3 ⊢
  simp only [e1, e2, e3, if_true, if_false, Bool.false_eq_true]

/-- What the search keeps true with `b` still to decide: `n` is not above `q`, `n + b` is. -/
def Inv (q : EReal) (n b : ℕ) : Prop :=
  n + b ≤ 256 ∧ (n = 0 ∨ pow (BitVec.ofNat 32 n) ≤ q) ∧ (n + b = 256 ∨ q < pow (BitVec.ofNat 32 (n + b)))

/-- One step halves what is left to decide. -/
theorem step_inv (q : EReal) (n b : ℕ) (h : Inv q n (2 * b)) :
    ∃ n', step q (BitVec.ofNat 32 b) (BitVec.ofNat 32 n) = BitVec.ofNat 32 n' ∧ Inv q n' b := by
  obtain ⟨h1, h2, h3⟩ := h
  have ha : BitVec.ofNat 32 n + BitVec.ofNat 32 b = BitVec.ofNat 32 (n + b) := by
    rw [← BitVec.ofNat_add]
  unfold step
  rw [ha]
  by_cases hq : pow (BitVec.ofNat 32 (n + b)) ≤ q
  · refine ⟨n + b, if_pos hq, by omega, .inr hq, ?_⟩
    rcases h3 with h3 | h3
    · exact .inl (by omega)
    · exact .inr (by rw [show n + b + b = n + 2 * b by omega]; exact h3)
  · exact ⟨n, if_neg hq, by omega, h2, .inr (not_le.mp hq)⟩

/-- The field the search finds: its power of two is the last not above `q`. -/
theorem field_spec (q : EReal) : ∃ n, field q = BitVec.ofNat 32 n ∧ Inv q n 1 := by
  have h256 : Inv q 0 (2 * 128) := ⟨by omega, .inl rfl, .inl rfl⟩
  obtain ⟨n7, e7, i7⟩ := step_inv q 0 128 h256
  obtain ⟨n6, e6, i6⟩ := step_inv q n7 64 i7
  obtain ⟨n5, e5, i5⟩ := step_inv q n6 32 i6
  obtain ⟨n4, e4, i4⟩ := step_inv q n5 16 i5
  obtain ⟨n3, e3, i3⟩ := step_inv q n4 8 i4
  obtain ⟨n2, e2, i2⟩ := step_inv q n3 4 i3
  obtain ⟨n1, e1, i1⟩ := step_inv q n2 2 i2
  obtain ⟨n0, e0, i0⟩ := step_inv q n1 1 i1
  refine ⟨n0, ?_, i0⟩
  rw [← e0, ← e1, ← e2, ← e3, ← e4, ← e5, ← e6, ← e7]
  rfl

/-- Where `2 ^ k ≤ r < 2 ^ (k + 1)`, the floor of the base-two logarithm of `r` is `k`. -/
theorem floor_log (r : ℝ) (k : ℤ) (h1 : (2 : ℝ) ^ k ≤ r) (h2 : r < (2 : ℝ) ^ (k + 1)) :
    ⌊Real.log r * (1 / Real.log 2)⌋ = k := by
  have hl : 0 < Real.log 2 := Real.log_pos (by norm_num)
  have hp : (0 : ℝ) < (2 : ℝ) ^ k := by positivity
  have hr : 0 < r := lt_of_lt_of_le hp h1
  rw [mul_one_div, Int.floor_eq_iff, le_div_iff₀ hl, div_lt_iff₀ hl]
  have e1 := Real.log_le_log hp h1
  have e2 := Real.log_lt_log hr h2
  rw [Real.log_zpow] at e1 e2
  push_cast at e2
  exact ⟨e1, e2⟩

/-- The reference's exponent for a quotient between two neighbouring powers of two. -/
theorem expo_eq (q : EReal) (k : ℤ) (hk : -126 ≤ k) (h1 : (((2 : ℝ) ^ k : ℝ) : EReal) ≤ q)
    (h2 : q < (((2 : ℝ) ^ (k + 1) : ℝ) : EReal)) : expo q = (((k + 1 : ℤ) : ℝ) : EReal) := by
  have hl : 0 < Real.log 2 := Real.log_pos (by norm_num)
  have htiny : Ideal.ofBits .f32 0x00800000#32 = (((2 : ℝ) ^ (-126 : ℤ) : ℝ) : EReal) :=
    pow_ofNat 1 (by norm_num) (by norm_num)
  have hge : ¬ q < Ideal.ofBits .f32 0x00800000#32 := by
    rw [htiny, not_lt]
    refine le_trans ?_ h1
    exact_mod_cast zpow_le_zpow_right₀ (by norm_num : (1 : ℝ) ≤ 2) hk
  induction q using EReal.rec with
  | bot => simp at h1
  | top => simp at h2
  | coe r =>
    have h1' : (2 : ℝ) ^ k ≤ r := by exact_mod_cast h1
    have h2' : r < (2 : ℝ) ^ (k + 1) := by exact_mod_cast h2
    have hr : ¬ r ≤ 0 := not_le.mpr (lt_of_lt_of_le (by positivity) h1')
    unfold expo
    rw [if_neg hge, Ideal.log_coe, if_neg hr, Ideal.div_coe hl.ne', ← EReal.coe_mul,
      Ideal.liftRound_coe, floor_log r k h1' h2']
    push_cast
    rfl

/-- Below `2 ^ 126` the kernel's scale is two to the reference's exponent, and the kernel's inverse
    scale is two to minus that exponent. -/
theorem scale_inv (q : EReal) (hq : q < (((2 : ℝ) ^ (126 : ℤ) : ℝ) : EReal)) :
    scale q = Ideal.exp2 (expo q) ∧ inv q = Ideal.exp2 (0 - expo q) := by
  obtain ⟨n, hf, hn, hlo, hhi⟩ := field_spec q
  have h253 : n < 253 := by
    by_contra hc
    rcases hlo with h | h
    · omega
    · by_cases hn5 : n = 255
      · subst hn5
        rw [pow_255, top_le_iff] at h
        rw [h] at hq
        exact absurd hq not_top_lt
      · rw [pow_ofNat n (by omega) (by omega)] at h
        have : (((2 : ℝ) ^ (126 : ℤ) : ℝ) : EReal) ≤ (((2 : ℝ) ^ ((n : ℤ) - 127) : ℝ) : EReal) := by
          exact_mod_cast zpow_le_zpow_right₀ (by norm_num : (1 : ℝ) ≤ 2) (by omega : (126 : ℤ) ≤ n - 127)
        exact absurd (this.trans h) (not_le.mpr hq)
  have hhi' : q < (((2 : ℝ) ^ ((n : ℤ) + 1 - 127) : ℝ) : EReal) := by
    rcases hhi with h | h
    · omega
    · rw [pow_ofNat (n + 1) (by omega) (by omega)] at h
      exact_mod_cast h
  have h127 : pow 127 = 1 := by
    have := pow_ofNat 127 (by norm_num) (by norm_num)
    simpa using this
  by_cases hz : n = 0
  · subst hz
    have hf0 : field q = 0 := hf
    have he : expo q = 0 := by
      unfold expo
      rw [if_pos]
      have htiny : Ideal.ofBits .f32 0x00800000#32 = (((2 : ℝ) ^ (-126 : ℤ) : ℝ) : EReal) :=
        pow_ofNat 1 (by norm_num) (by norm_num)
      rw [htiny]
      exact hhi'
    have h0 : Ideal.exp2 0 = 1 := by
      rw [← EReal.coe_zero, Ideal.exp2_coe]
      simp
    unfold scale inv
    rw [he, if_pos (.inl hf0), if_pos (.inl hf0), h127, sub_zero, h0]
    exact ⟨rfl, rfl⟩
  · have hne : ¬ (field q = 0 ∨ field q = 255) := by
      rw [hf]
      rintro (h | h)
      · have := congrArg BitVec.toNat h
        simp at this
        omega
      · have := congrArg BitVec.toNat h
        simp at this
        omega
    have hlo' := hlo.resolve_left hz
    rw [pow_ofNat n (by omega) (by omega)] at hlo'
    have he := expo_eq q ((n : ℤ) - 127) (by omega) hlo' (by
      rw [show (n : ℤ) - 127 + 1 = n + 1 - 127 by ring]; exact hhi')
    have hs : field q + 1 = BitVec.ofNat 32 (n + 1) := by
      rw [hf, BitVec.ofNat_add]
      rfl
    have hi : 253 - field q = BitVec.ofNat 32 (253 - n) := by
      rw [hf]
      apply BitVec.eq_of_toNat_eq
      simp
      omega
    unfold scale inv
    rw [if_neg hne, if_neg hne, hs, hi, pow_ofNat (n + 1) (by omega) (by omega),
      pow_ofNat (253 - n) (by omega) (by omega), he]
    constructor
    · rw [Ideal.exp2_coe]
      congr 1
      rw [Real.rpow_eq_pow, Real.rpow_intCast]
      congr 1
      push_cast
      ring
    · rw [zero_sub, ← EReal.coe_neg, Ideal.exp2_coe]
      congr 1
      rw [Real.rpow_eq_pow, ← Int.cast_neg, Real.rpow_intCast]
      congr 1
      omega

/-! ## The quotient is below `2 ^ 126` when the weights are finite -/

/-- A square of an extended real is not negative. -/
theorem sq_nonneg' (x : EReal) : 0 ≤ x * x := by
  induction x using EReal.rec with
  | bot => simp
  | top => simp
  | coe r => exact_mod_cast mul_self_nonneg r

/-- A value of the row times the reciprocal root is a number of magnitude below 72. -/
theorem normed_bound (h : Fin 5120 → EReal) (j : Fin 5120) :
    ∃ r : ℝ, h j * invRms h = (r : EReal) ∧ |r| ≤ 72 := by
  have hle : h j * h j ≤ ∑ j, h j * h j :=
    Finset.single_le_sum (f := fun j => h j * h j) (fun i _ => sq_nonneg' (h i)) (Finset.mem_univ j)
  have h0 : 0 ≤ ∑ j, h j * h j := Finset.sum_nonneg fun i _ => sq_nonneg' (h i)
  obtain ⟨ε, hε, heps⟩ : ∃ ε : ℝ, 0 < ε ∧ Ideal.ofBits .f32 0x3727C5AC#32 = (ε : EReal) := by
    refine ⟨_, ?_, by simp [Ideal.ofBits, Ideal.ieee, -EReal.coe_mul]; rfl⟩
    positivity
  unfold invRms meanSq
  rw [heps]
  generalize (∑ j, h j * h j) = S at hle h0
  induction S using EReal.rec with
  | bot => simp at h0
  | top =>
    refine ⟨0, ?_, by norm_num⟩
    rw [EReal.top_mul_coe_of_pos (by norm_num), EReal.top_add_coe, Ideal.rsqrt_top, mul_zero]
    rfl
  | coe S =>
    have hS : 0 ≤ S := by exact_mod_cast h0
    generalize h j = x at hle
    induction x using EReal.rec with
    | bot => simp at hle
    | top => simp at hle
    | coe x =>
      have hx : x * x ≤ S := by exact_mod_cast hle
      have hd : 0 < S * (1 / 5120) + ε := by positivity
      rw [← EReal.coe_mul, ← EReal.coe_add, Ideal.rsqrt_coe, if_neg (not_lt.mpr hd.le), if_neg hd.ne',
        ← EReal.coe_mul]
      refine ⟨_, rfl, abs_le_of_sq_le_sq ?_ (by norm_num)⟩
      rw [mul_pow, inv_pow, Real.sq_sqrt hd.le, ← div_eq_mul_inv, div_le_iff₀ hd]
      nlinarith

/-- The largest finite weight. -/
theorem weight_max : Ideal.ofBits .bf16 0x7F7F#16 = ((255 * (2 : ℝ) ^ 120 : ℝ) : EReal) := by
  simp [Ideal.ofBits, Ideal.ieee, -EReal.coe_mul]

/-- The constant nearest to 1/448 lies between 0 and 1/447. -/
theorem inv448 : ∃ k : ℝ, 0 < k ∧ k ≤ 1 / 447 ∧ Ideal.ofBits .f32 0x3B124925#32 = (k : EReal) := by
  refine ⟨_, ?_, ?_, by simp [Ideal.ofBits, Ideal.ieee, -EReal.coe_mul]; rfl⟩
  · positivity
  · norm_num

/-- Weights no larger than the largest finite one keep the quotient below `2 ^ 126`. -/
theorem quot_lt (h g : Fin 5120 → EReal) (hg : ∀ j, max (g j) (-g j) ≤ Ideal.ofBits .bf16 0x7F7F#16) :
    quot h g < (((2 : ℝ) ^ (126 : ℤ) : ℝ) : EReal) := by
  obtain ⟨k, hk0, hk1, hk⟩ := inv448
  have hA : absMax h g ≤ ((72 * (255 * (2 : ℝ) ^ 120) : ℝ) : EReal) := by
    unfold absMax
    rw [Finset.fold_max_le]
    refine ⟨bot_le, fun j _ => ?_⟩
    obtain ⟨r, hr, hr72⟩ := normed_bound h j
    have hgj := hg j
    rw [weight_max] at hgj
    unfold normed
    rw [hr]
    generalize g j = x at hgj
    induction x using EReal.rec with
    | bot => exact absurd (le_trans (le_max_right _ _) hgj) (by rw [EReal.neg_bot]; exact not_le.mpr (EReal.coe_lt_top _))
    | top => exact absurd (le_trans (le_max_left _ _) hgj) (not_le.mpr (EReal.coe_lt_top _))
    | coe x =>
      rw [← EReal.coe_neg, max_le_iff, EReal.coe_le_coe_iff, EReal.coe_le_coe_iff, ← max_le_iff] at hgj
      have hx : |x| ≤ 255 * (2 : ℝ) ^ 120 := hgj
      rw [← EReal.coe_mul, ← EReal.coe_neg, max_le_iff, EReal.coe_le_coe_iff, EReal.coe_le_coe_iff, ← max_le_iff]
      show |r * x| ≤ _
      rw [abs_mul]
      exact mul_le_mul hr72 hx (abs_nonneg x) (by norm_num)
  unfold quot
  rw [hk]
  refine lt_of_le_of_lt (mul_le_mul_of_nonneg_right hA (by exact_mod_cast hk0.le)) ?_
  rw [← EReal.coe_mul, EReal.coe_lt_coe_iff]
  refine lt_of_le_of_lt (mul_le_mul_of_nonneg_left hk1 (by positivity)) ?_
  norm_num

end Cert.Row

end
-- ==== Proof.Lanes.lean ====
module

public import proofs.«01_k».proof.Proof.Chain
public import proofs.«01_k».proof.Proof.RowMath
public import Idealize.ShloMosaic.Lib.Pointwise
public import Idealize.ShloMosaic.Lib.Pipeline.ValueKit

/-! The kernel's repeated steps at one lane, over the extended reals. -/

@[expose] public section

set_option maxRecDepth 16384

noncomputable section

open Idealize.ShloMosaic Idealize.ShloMosaic.TcCoe Idealize.SL.Sem
open Cert.KernelIdeal Cert.KernelIdeal.Gen

namespace Cert.KernelIdeal.Value

/-! ## Tiles -/

/-- A column of a tile is a column of the block. -/
theorem col_lt (c : Fin 10) (l : Fin 512) : c.val * 512 + l.val < 5120 := by omega

/-- The 512 columns from column `512 c` on. -/
def tile {φ : FTy} (A : FVec Ideal S256x5120 φ) (c : Fin 10) : FVec Ideal S256x512 φ :=
  fun j => A (ix2 (j 0 : Fin 256) (⟨c.val * 512 + (j 1 : Fin 512).val, col_lt c (j 1)⟩ : Fin 5120))

/-- The same columns of a single row. -/
def rtile {φ : FTy} (g : FVec Ideal S1x5120 φ) (c : Fin 10) : FVec Ideal S1x512 φ :=
  fun j => g (ix2 (0 : Fin 1) (⟨c.val * 512 + (j 1 : Fin 512).val, col_lt c (j 1)⟩ : Fin 5120))

/-- A tile of the sum of residual and scaled product, at an index. -/
theorem hTile_at (x1 : Vec Ideal S1x1x256 .f32) (x0 : Vec Ideal S256x2560 .fp8e4m3) (w : Vec Ideal S2560x512 .fp8e4m3)
    (s : Vec Ideal S1x512 .f32) (r : Vec Ideal S256x512 .bf16) (p : Fin 256) (l : Fin 512) :
    k0_pay9 (k0_pay3 x1) (k0_pay4 x0) w s r (ix2 p l)
      = r (ix2 p l) + (∑ k : Fin 2560, x0 (ix2 p k) * w (ix2 k l)) * x1 (ix3 0 0 p) * s (ix2 0 l) := by
  have e : ∀ h : ¬ p.val < 128, (⟨128 + (p.val - 128), by omega⟩ : Fin 256) = p :=
    fun h => Fin.ext (by show 128 + (p.val - 128) = p.val; omega)
  have e' : (if h : p.val < 128 then x1 (ix3 0 0 p)
      else x1 (ix3 0 0 (⟨128 + (p.val - 128), by omega⟩ : Fin 256))) = x1 (ix3 0 0 p) := by
    split
    · rfl
    · rename_i h; rw [e h]
  pointwise [k0_pay9, k0_pay3, k0_pay4]
  simp only [e', dite_eq_ite, ite_self]

/-! ## The mean square -/

/-- One tile's squares added to the running sums, at a lane. -/
theorem sqAdd_at (acc : FVec Ideal S256x128 .f32) (A : FVec Ideal S256x5120 .bf16) (c : Fin 10) (p : Fin 256) (l : Fin 128) :
    sqAdd acc (tile A c) (ix2 p l) = acc (ix2 p l)
      + ∑ i : Fin 4, (A (ix2 p ⟨c.val * 512 + (i.val * 128 + l.val), by omega⟩)
        * A (ix2 p ⟨c.val * 512 + (i.val * 128 + l.val), by omega⟩) : EReal) := by
  rw [Fin.sum_univ_four]
  generalize hT : tile A c = T
  pointwise [sqAdd]
  subst hT
  simp only [add_assoc]
  have e : ∀ (n : ℕ) (h : n < 512), tile A c (ix2 p (⟨n, h⟩ : Fin 512)) = A (ix2 p ⟨c.val * 512 + n, by omega⟩) :=
    fun _ _ => rfl
  simp only [e]

/-- The running sums before the first tile are zero. -/
theorem zeros_at (p : Fin 256) (l : Fin 128) : zeros (F := Ideal) (ix2 p l) = (0 : EReal) := by
  pointwise [zeros]

/-- The lanes' sum times the constant. -/
theorem meanOf_at (acc : FVec Ideal S256x128 .f32) (p : Fin 256) :
    meanOf acc (ix2 p 0) = (∑ l : Fin 128, acc (ix2 p l)) * ((1 / 5120 : ℝ) : EReal) := by
  pointwise [meanOf]
  exact congrArg ((∑ l : Fin 128, acc (ix2 p l)) * ·) (IdealRules.named_const.ideal_named_scalar _ _ _ _ rfl)

/-- Ten terms one after the other are their sum. -/
theorem sum10 (S : Fin 10 → EReal) :
    0 + S 0 + S 1 + S 2 + S 3 + S 4 + S 5 + S 6 + S 7 + S 8 + S 9 = ∑ c, S c := by
  simp [Fin.sum_univ_castSucc]

/-- A row's sum taken lane by lane, then over the tiles and the lane groups in each. -/
theorem sum_lanes (f : Fin 5120 → EReal) :
    ∑ l : Fin 128, ∑ c : Fin 10, ∑ i : Fin 4, f ⟨c.val * 512 + (i.val * 128 + l.val), by omega⟩ = ∑ j, f j := by
  rw [Fin.sum_univ_tiles 10 512 rfl f, Finset.sum_comm]
  refine Finset.sum_congr rfl fun c _ => ?_
  rw [Finset.sum_comm]
  exact (Fin.sum_univ_tiles 4 128 rfl fun t : Fin 512 => f ⟨c.val * 512 + t.val, by omega⟩).symm

/-- The mean square of every row of a block. -/
def meanB (A : FVec Ideal S256x5120 .bf16) : FVec Ideal S256x1 .f32 :=
  fun j => Row.meanSq fun k => A (ix2 (j 0 : Fin 256) k)

/-- Ten tiles' squares, added up and scaled, are the mean square of every row. -/
theorem mean_rows (A : FVec Ideal S256x5120 .bf16) :
    meanOf (sqAdd (sqAdd (sqAdd (sqAdd (sqAdd (sqAdd (sqAdd (sqAdd (sqAdd (sqAdd zeros
      (tile A 0)) (tile A 1)) (tile A 2)) (tile A 3)) (tile A 4)) (tile A 5)) (tile A 6)) (tile A 7))
      (tile A 8)) (tile A 9)) = meanB A := by
  funext j
  obtain ⟨p, rfl⟩ : ∃ p : Fin 256, j = ix2 p 0 := ⟨j 0, by blk_ext⟩
  rw [meanOf_at]
  simp only [sqAdd_at, zeros_at]
  show _ = (∑ k : Fin 5120, (A (ix2 p k) * A (ix2 p k) : EReal)) * ((1 / 5120 : ℝ) : EReal)
  rw [← sum_lanes fun k => (A (ix2 p k) * A (ix2 p k) : EReal)]
  refine congrArg (· * ((1 / 5120 : ℝ) : EReal)) (Finset.sum_congr rfl fun l _ => ?_)
  exact sum10 fun c => ∑ i : Fin 4, (A (ix2 p ⟨c.val * 512 + (i.val * 128 + l.val), by omega⟩)
        * A (ix2 p ⟨c.val * 512 + (i.val * 128 + l.val), by omega⟩) : EReal)

/-- The reciprocal roots, on every column of a tile. -/
def rootB (A : FVec Ideal S256x5120 .bf16) : FVec Ideal S256x512 .f32 :=
  fun j => Row.invRms fun k => A (ix2 (j 0 : Fin 256) k)

/-- The reciprocal roots as the body computes them from the mean squares. -/
theorem root_rows (A : FVec Ideal S256x5120 .bf16) : k0_pay28 (meanB A) k0_pay27 = rootB A := by
  funext j
  obtain ⟨p, l, rfl⟩ : ∃ (p : Fin 256) (l : Fin 512), j = ix2 p l := ⟨j 0, j 1, by blk_ext⟩
  generalize hM : meanB A = M
  pointwise [k0_pay28, k0_pay27]
  subst hM
  simp only [dite_eq_ite, ite_self]
  rfl

/-! ## The quotient -/

/-- The magnitude of a normalised value. -/
def mag (A : FVec Ideal S256x5120 .bf16) (g : FVec Ideal S1x5120 .bf16) (p : Fin 256) (j : Fin 5120) : EReal :=
  max (Row.normed (fun k => A (ix2 p k)) (fun k => g (ix2 0 k)) j)
    (-Row.normed (fun k => A (ix2 p k)) (fun k => g (ix2 0 k)) j)

/-- A magnitude is not negative. -/
theorem mag_nonneg (A : FVec Ideal S256x5120 .bf16) (g : FVec Ideal S1x5120 .bf16) (p : Fin 256) (j : Fin 5120) :
    0 ≤ mag A g p j := by
  unfold mag
  rcases le_total 0 (Row.normed (fun k => A (ix2 p k)) (fun k => g (ix2 0 k)) j) with h | h
  · exact le_max_of_le_left h
  · exact le_max_of_le_right (EReal.neg_nonneg.mpr h)

/-- One tile of magnitudes. -/
theorem absTile_at (A : FVec Ideal S256x5120 .bf16) (g : FVec Ideal S1x5120 .bf16) (c : Fin 10) (p : Fin 256) (l : Fin 512) :
    absTile (rootB A) (tile A c) (rtile g c) (ix2 p l) = mag A g p ⟨c.val * 512 + l.val, by omega⟩ := by
  generalize hR : rootB A = R
  generalize hT : tile A c = T
  generalize hg : rtile g c = G
  pointwise [absTile]
  subst hR hT hg
  rfl

/-- Folding a tile into the running maxima keeps them below a bound exactly when its entries are. -/
theorem maxAdd_le (acc : FVec Ideal S256x128 .f32) (q : FVec Ideal S256x512 .f32) (p : Fin 256) (l : Fin 128) (b : EReal) :
    maxAdd acc q (ix2 p l) ≤ b ↔ acc (ix2 p l) ≤ b ∧ ∀ i : Fin 4, q (ix2 p ⟨i.val * 128 + l.val, by omega⟩) ≤ b := by
  pointwise [maxAdd]
  have e : ∀ (n n' : ℕ) (h : n < 512) (h' : n' < 512), n = n' →
      q (ix2 p (⟨n, h⟩ : Fin 512)) = q (ix2 p (⟨n', h'⟩ : Fin 512)) := by
    rintro n _ h h' rfl; rfl
  rw [e l.val ((0 : Fin 4).val * 128 + l.val) (by omega) (by omega) (by simp),
    e (128 + l.val) ((1 : Fin 4).val * 128 + l.val) (by omega) (by omega) (by simp),
    e (256 + l.val) ((2 : Fin 4).val * 128 + l.val) (by omega) (by omega) (by simp),
    e (384 + l.val) ((3 : Fin 4).val * 128 + l.val) (by omega) (by omega) (by simp)]
  simp only [max_le_iff, and_assoc]

/-- The largest lane times the constant. -/
theorem quotOf_at (acc : FVec Ideal S256x128 .f32) (p : Fin 256) (l : Fin 128) :
    quotOf acc (ix2 p l)
      = Finset.fold max ⊥ (fun x : Fin 128 => (acc (ix2 p x) : EReal)) Finset.univ * Ideal.ofBits .f32 0x3B124925#32 := by
  pointwise [quotOf]
  rw [show Ideal.ofBits .f32 0xFF800000#32 = ⊥ by simp [Ideal.ofBits, Ideal.ieee]]

/-- Ten facts one after the other are a fact about every tile. -/
theorem and10 (P : Fin 10 → Prop) (Z : Prop) :
    (((((((((((Z ∧ P 0) ∧ P 1) ∧ P 2) ∧ P 3) ∧ P 4) ∧ P 5) ∧ P 6) ∧ P 7) ∧ P 8) ∧ P 9)) ↔ Z ∧ ∀ c, P c := by
  constructor
  · rintro ⟨⟨⟨⟨⟨⟨⟨⟨⟨⟨z, h0⟩, h1⟩, h2⟩, h3⟩, h4⟩, h5⟩, h6⟩, h7⟩, h8⟩, h9⟩
    refine ⟨z, fun c => ?_⟩
    fin_cases c <;> assumption
  · rintro ⟨z, h⟩
    exact ⟨⟨⟨⟨⟨⟨⟨⟨⟨⟨z, h 0⟩, h 1⟩, h 2⟩, h 3⟩, h 4⟩, h 5⟩, h 6⟩, h 7⟩, h 8⟩, h 9⟩

/-- The quotient of every row of a block, on every lane. -/
def quotB (A : FVec Ideal S256x5120 .bf16) (g : FVec Ideal S1x5120 .bf16) : FVec Ideal S256x128 .f32 :=
  fun j => Row.quot (fun k => A (ix2 (j 0 : Fin 256) k)) fun k => g (ix2 0 k)

/-- Ten tiles' magnitudes, folded and scaled, are the quotient of every row. -/
theorem quot_rows (A : FVec Ideal S256x5120 .bf16) (g : FVec Ideal S1x5120 .bf16) :
    quotOf (maxAdd (maxAdd (maxAdd (maxAdd (maxAdd (maxAdd (maxAdd (maxAdd (maxAdd (maxAdd zeros
      (absTile (rootB A) (tile A 0) (rtile g 0))) (absTile (rootB A) (tile A 1) (rtile g 1)))
      (absTile (rootB A) (tile A 2) (rtile g 2))) (absTile (rootB A) (tile A 3) (rtile g 3)))
      (absTile (rootB A) (tile A 4) (rtile g 4))) (absTile (rootB A) (tile A 5) (rtile g 5)))
      (absTile (rootB A) (tile A 6) (rtile g 6))) (absTile (rootB A) (tile A 7) (rtile g 7)))
      (absTile (rootB A) (tile A 8) (rtile g 8))) (absTile (rootB A) (tile A 9) (rtile g 9)))
    = quotB A g := by
  funext j
  obtain ⟨p, l, rfl⟩ : ∃ (p : Fin 256) (l : Fin 128), j = ix2 p l := ⟨j 0, j 1, by blk_ext⟩
  rw [quotOf_at]
  show _ = Finset.fold max ⊥ (fun j => mag A g p j) Finset.univ * Ideal.ofBits .f32 0x3B124925#32
  refine congrArg (· * Ideal.ofBits .f32 0x3B124925#32) (eq_of_forall_ge_iff fun b => ?_)
  simp only [Finset.fold_max_le, maxAdd_le, absTile_at, zeros_at, bot_le, true_and, Finset.mem_univ, forall_true_left]
  constructor
  · intro h j
    have h' := ((and10 (fun c : Fin 10 => ∀ i : Fin 4, mag A g p ⟨c.val * 512 + (i.val * 128 + j.val % 128), by omega⟩ ≤ b) _).mp
      (h ⟨j.val % 128, by omega⟩)).2 ⟨j.val / 512, by omega⟩ ⟨j.val % 512 / 128, by omega⟩
    rwa [show (⟨j.val / 512 * 512 + (j.val % 512 / 128 * 128 + j.val % 128), by omega⟩ : Fin 5120) = j from
      Fin.ext (by show j.val / 512 * 512 + (j.val % 512 / 128 * 128 + j.val % 128) = j.val; omega)] at h'
  · intro h x
    exact (and10 (fun c : Fin 10 => ∀ i : Fin 4, mag A g p ⟨c.val * 512 + (i.val * 128 + x.val), by omega⟩ ≤ b) _).mpr
      ⟨le_trans (mag_nonneg A g p 0) (h 0), fun c i => h _⟩

/-! ## The scales -/

/-- A shift by 23 places. -/
theorem shli23 (e : BitVec 32) : IntOp.shli .vector e 23#32 = e <<< 23 := by
  simp [IntOp.shli]

/-- One step of the search at a lane. -/
theorem vstep_at (q : FVec Ideal S256x128 .f32) (bit : BitVec 32) (e : IVec S256x128 32) (p : Fin 256) (l : Fin 128) :
    vstep q bit e (ix2 p l) = Row.step (q (ix2 p l)) bit (e (ix2 p l)) := by
  pointwise [vstep]
  rw [shli23]
  rfl

/-- The search at a lane. -/
theorem vfield_at (q : FVec Ideal S256x128 .f32) (p : Fin 256) (l : Fin 128) :
    vfield q (ix2 p l) = Row.field (q (ix2 p l)) := by
  unfold vfield
  simp only [vstep_at]
  rfl

/-- The float with a given exponent field at a lane. -/
theorem vpow_at (e : IVec S256x128 32) (p : Fin 256) (l : Fin 128) :
    vpow (F := Ideal) e (ix2 p l) = Row.pow (e (ix2 p l)) := by
  pointwise [vpow]
  rw [shli23]
  rfl

/-- The choice between 127 and another field at a lane. -/
theorem edge_at (e f : IVec S256x128 32) (p : Fin 256) (l : Fin 128) :
    select (vedge e) (broadcast S256x128 127#32) f (ix2 p l)
      = if e (ix2 p l) = 0 ∨ e (ix2 p l) = 255 then 127 else f (ix2 p l) := by
  pointwise [vedge]
  by_cases h0 : e (ix2 p l) = 0#32
  · simp [IntOp.cmpi, IntOp.ori, Scalar.select, h0]
  · by_cases h1 : e (ix2 p l) = 255#32
    · simp [IntOp.cmpi, IntOp.ori, Scalar.select, h1]
    · have e0 : (e (ix2 p l) == 0#32) = false := beq_eq_false_iff_ne.mpr h0
      have e1 : (e (ix2 p l) == 255#32) = false := beq_eq_false_iff_ne.mpr h1
      simp [IntOp.cmpi, IntOp.ori, Scalar.select, h0, h1, e0, e1]

/-- The scale at a lane. -/
theorem scale_at (q : FVec Ideal S256x128 .f32) (p : Fin 256) (l : Fin 128) :
    vpow (F := Ideal) (select (vedge (vfield q)) (broadcast S256x128 127#32) (addi (vfield q) (broadcast S256x128 1#32)))
      (ix2 p l) = Row.scale (q (ix2 p l)) := by
  have h : addi (vfield q) (broadcast S256x128 1#32) (ix2 p l) = Row.field (q (ix2 p l)) + 1 := by
    rw [← vfield_at]
    rfl
  rw [vpow_at, edge_at, h, vfield_at]
  unfold Row.scale
  rfl

/-- The inverse scale at a lane. -/
theorem inv_at (q : FVec Ideal S256x128 .f32) (p : Fin 256) (l : Fin 128) :
    vpow (F := Ideal) (select (vedge (vfield q)) (broadcast S256x128 127#32) (subi (broadcast S256x128 253#32) (vfield q)))
      (ix2 p l) = Row.inv (q (ix2 p l)) := by
  have h : subi (broadcast S256x128 253#32) (vfield q) (ix2 p l) = 253 - Row.field (q (ix2 p l)) := by
    rw [← vfield_at]
    rfl
  rw [vpow_at, edge_at, h, vfield_at]
  unfold Row.inv
  rfl

/-- The scale of every row of a block, on every lane. -/
def scaleB (A : FVec Ideal S256x5120 .bf16) (g : FVec Ideal S1x5120 .bf16) : FVec Ideal S256x128 .f32 :=
  fun j => Row.scale (quotB A g j)

/-- The inverse scale of every row of a block, on every lane. -/
def invB (A : FVec Ideal S256x5120 .bf16) (g : FVec Ideal S1x5120 .bf16) : FVec Ideal S256x128 .f32 :=
  fun j => Row.inv (quotB A g j)

/-- The scales as the body computes them from the quotients. -/
theorem scale_rows (A : FVec Ideal S256x5120 .bf16) (g : FVec Ideal S1x5120 .bf16) :
    k0_pay42 (quotB A g) (k0_pay38 (quotB A g) k0_pay36 k0_pay37) (k0_pay39 (quotB A g) k0_pay36 k0_pay37)
      = scaleB A g := by
  rw [scale_chain]
  funext j
  obtain ⟨p, l, rfl⟩ : ∃ (p : Fin 256) (l : Fin 128), j = ix2 p l := ⟨j 0, j 1, by blk_ext⟩
  exact scale_at _ p l

/-- The inverse scales as the body computes them from the quotients. -/
theorem inv_rows (A : FVec Ideal S256x5120 .bf16) (g : FVec Ideal S1x5120 .bf16) :
    k0_pay43 (quotB A g) (k0_pay38 (quotB A g) k0_pay36 k0_pay37) (k0_pay39 (quotB A g) k0_pay36 k0_pay37)
      = invB A g := by
  rw [inv_chain]
  funext j
  obtain ⟨p, l, rfl⟩ : ∃ (p : Fin 256) (l : Fin 128), j = ix2 p l := ⟨j 0, j 1, by blk_ext⟩
  exact inv_at _ p l

/-- The first 128 scales of a block, stored as a row. -/
theorem scale_lo (A : FVec Ideal S256x5120 .bf16) (g : FVec Ideal S1x5120 .bf16) (l : Fin 128) :
    k0_pay44 (scaleB A g) (ix3 0 0 l)
      = Row.scale (Row.quot (fun k => A (ix2 (⟨l.val, by omega⟩ : Fin 256) k)) fun k => g (ix2 0 k)) := by
  generalize hS : scaleB A g = S
  pointwise [k0_pay44]
  subst hS
  rfl

/-- The last 128 scales of a block, stored as a row. -/
theorem scale_hi (A : FVec Ideal S256x5120 .bf16) (g : FVec Ideal S1x5120 .bf16) (l : Fin 128) :
    k0_pay45 (scaleB A g) (ix3 0 0 l)
      = Row.scale (Row.quot (fun k => A (ix2 (⟨128 + l.val, by omega⟩ : Fin 256) k)) fun k => g (ix2 0 k)) := by
  generalize hS : scaleB A g = S
  pointwise [k0_pay45]
  subst hS
  rfl

/-! ## The codes -/

/-- The codes of a block. -/
def codeB (A : FVec Ideal S256x5120 .bf16) (g : FVec Ideal S1x5120 .bf16) : FVec Ideal S256x5120 .fp8e4m3 :=
  fun j => Row.code (Row.normed (fun k => A (ix2 (j 0 : Fin 256) k)) (fun k => g (ix2 0 k)) (j 1 : Fin 5120))
    (Row.inv (Row.quot (fun k => A (ix2 (j 0 : Fin 256) k)) fun k => g (ix2 0 k)))

/-- A tile of codes as the body computes it. -/
theorem code_rows (A : FVec Ideal S256x5120 .bf16) (g : FVec Ideal S1x5120 .bf16) (c : Fin 10) :
    k0_pay50 (rootB A) (k0_pay46 (invB A g)) (tile A c) (rtile g c) = tile (codeB A g) c := by
  funext j
  obtain ⟨p, l, rfl⟩ : ∃ (p : Fin 256) (l : Fin 512), j = ix2 p l := ⟨j 0, j 1, by blk_ext⟩
  have hI : k0_pay46 (invB A g) (ix2 p l) = Row.inv (Row.quot (fun k => A (ix2 p k)) fun k => g (ix2 0 k)) := by
    generalize hI : invB A g = I
    pointwise [k0_pay46]
    subst hI
    have e : ∀ n : Fin 128, invB A g (ix2 p n) = Row.inv (Row.quot (fun k => A (ix2 p k)) fun k => g (ix2 0 k)) :=
      fun n => rfl
    simp only [e, dite_eq_ite, ite_self]
  generalize k0_pay46 (invB A g) = I at hI
  generalize hR : rootB A = R
  generalize hT : tile A c = T
  generalize hg : rtile g c = G
  pointwise [k0_pay50]
  rw [hI]
  subst hR hT hg
  rfl

end Cert.KernelIdeal.Value

end
-- ==== Proof.Block.lean ====
module

public import proofs.«01_k».proof.Proof.Lanes

/-! What one grid point leaves in the three output blocks. -/

@[expose] public section

set_option maxRecDepth 16384

noncomputable section

open Idealize.ShloMosaic Idealize.ShloMosaic.TcCoe Idealize.SL.Sem
open Idealize.ShloMosaic.Pipeline (Dat)
open Cert.KernelIdeal Cert.KernelIdeal.Gen

namespace Cert.KernelIdeal.Value

/-- The block of sums: the residual plus the product, scaled by token and by column. -/
def sumB (x0 : Vec Ideal S256x2560 .fp8e4m3) (x1 : Vec Ideal S1x1x256 .f32) (x2 : Vec Ideal S2560x5120 .fp8e4m3)
    (x3 : Vec Ideal S1x5120 .f32) (x4 : Vec Ideal S256x5120 .bf16) : FVec Ideal S256x5120 .bf16 :=
  fun j => (x4 (ix2 (j 0 : Fin 256) (j 1 : Fin 5120))
    + (∑ k : Fin 2560, x0 (ix2 (j 0 : Fin 256) k) * x2 (ix2 k (j 1 : Fin 5120))) * x1 (ix3 0 0 (j 0 : Fin 256))
      * x3 (ix2 0 (j 1 : Fin 5120)) : EReal)

/-- A load of 512 columns of a row is a tile of it. -/
theorem ld_rtile (g : Vec Ideal S1x5120 .bf16) (c : Fin 10) (o : ℕ)
    (inb : ∀ a, (![0, o] : Fin S1x5120.rank → ℕ) a + (![1, 512] : Fin S1x5120.rank → ℕ) a ≤ S1x5120.size a)
    (h : o = c.val * 512) :
    View.ld g (Rect.unit (s := S1x5120) ![0, o] ![1, 512] inb) = rtile (φ := .bf16) g c := by
  subst h
  funext j
  refine View.ld_unit_apply_of _ _ _ _ _ _ fun a => ?_
  have h0 : (j 0 : Fin 1).val < 1 := (j 0 : Fin 1).isLt
  fin_cases a
  · show 0 = 0 + (j 0 : Fin 1).val
    omega
  · rfl

/-- Reading back 512 columns of a block gives a tile. -/
theorem rd_tile (A : FVec Ideal S256x5120 .bf16) (c : Fin 10) (o : ℕ)
    (inb : ∀ a, (![0, o] : Fin S256x5120.rank → ℕ) a + (![256, 512] : Fin S256x5120.rank → ℕ) a ≤ S256x5120.size a)
    (h : o = c.val * 512) :
    (fun j => A ((Rect.unit (s := S256x5120) ![0, o] ![256, 512] inb).toLoadRect.idx j)) = tile A c := by
  subst h
  funext j
  refine View.ld_unit_apply_of (S := S256x5120) (e := .bf16) (Val := Elt Ideal) A _ _ inb _ _ fun a => ?_
  fin_cases a
  · exact (Nat.zero_add _).symm
  · rfl

/-- A tile stored by the body is a tile of the block of sums. -/
theorem piece (x0 : Vec Ideal S256x2560 .fp8e4m3) (x1 : Vec Ideal S1x1x256 .f32) (x2 : Vec Ideal S2560x5120 .fp8e4m3)
    (x3 : Vec Ideal S1x5120 .f32) (x4 : Vec Ideal S256x5120 .bf16) (c : Fin 10) (o : ℕ)
    (i2 : ∀ a, (![0, o] : Fin S2560x5120.rank → ℕ) a + (![2560, 512] : Fin S2560x5120.rank → ℕ) a ≤ S2560x5120.size a)
    (i3 : ∀ a, (![0, o] : Fin S1x5120.rank → ℕ) a + (![1, 512] : Fin S1x5120.rank → ℕ) a ≤ S1x5120.size a)
    (i4 : ∀ a, (![0, o] : Fin S256x5120.rank → ℕ) a + (![256, 512] : Fin S256x5120.rank → ℕ) a ≤ S256x5120.size a)
    (h : o = c.val * 512) :
    k0_pay9 (k0_pay3 x1) (k0_pay4 x0) (View.ld x2 (Rect.unit (s := S2560x5120) ![0, o] ![2560, 512] i2))
      (View.ld x3 (Rect.unit (s := S1x5120) ![0, o] ![1, 512] i3))
      (View.ld x4 (Rect.unit (s := S256x5120) ![0, o] ![256, 512] i4)) = tile (sumB x0 x1 x2 x3 x4) c := by
  subst h
  have e2 : ∀ (k : Fin 2560) (l : Fin 512),
      View.ld x2 (Rect.unit (s := S2560x5120) ![0, c.val * 512] ![2560, 512] i2) (ix2 k l)
        = x2 (ix2 k (⟨c.val * 512 + l.val, col_lt c l⟩ : Fin 5120)) := fun k l => by
    refine View.ld_unit_apply_of _ _ _ _ _ _ fun a => ?_
    fin_cases a
    · exact (Nat.zero_add _).symm
    · rfl
  have e3 : ∀ (l : Fin 512),
      View.ld x3 (Rect.unit (s := S1x5120) ![0, c.val * 512] ![1, 512] i3) (ix2 (0 : Fin 1) l)
        = x3 (ix2 (0 : Fin 1) (⟨c.val * 512 + l.val, col_lt c l⟩ : Fin 5120)) := fun l => by
    refine View.ld_unit_apply_of _ _ _ _ _ _ fun a => ?_
    fin_cases a
    · rfl
    · rfl
  have e4 : ∀ (k : Fin 256) (l : Fin 512),
      View.ld x4 (Rect.unit (s := S256x5120) ![0, c.val * 512] ![256, 512] i4) (ix2 k l)
        = x4 (ix2 k (⟨c.val * 512 + l.val, col_lt c l⟩ : Fin 5120)) := fun k l => by
    refine View.ld_unit_apply_of _ _ _ _ _ _ fun a => ?_
    fin_cases a
    · exact (Nat.zero_add _).symm
    · rfl
  funext j
  obtain ⟨p, l, rfl⟩ : ∃ (p : Fin 256) (l : Fin 512), j = ix2 p l := ⟨j 0, j 1, by blk_ext⟩
  refine (hTile_at _ _ _ _ _ p l).trans ?_
  rw [e3, e4]
  simp only [e2]
  rfl

/-- A tile read at its own index is the block read at the placed index. -/
theorem tile_read {φ : FTy} (A : FVec Ideal S256x5120 φ) (c : Fin 10) (x : S256x512.Idx) (y : S256x5120.Idx)
    (h0 : (y 0 : Fin 256).val = (x 0 : Fin 256).val) (h1 : (y 1 : Fin 5120).val = c.val * 512 + (x 1 : Fin 512).val) :
    tile A c x = A y := by
  refine congrArg A (funext fun a => ?_)
  fin_cases a
  · exact Fin.ext h0.symm
  · exact Fin.ext h1.symm

/-- The row of scales of a block. -/
def scaleRow (A : FVec Ideal S256x5120 .bf16) (g : FVec Ideal S1x5120 .bf16) : FVec Ideal S1x1x256 .f32 :=
  fun j => Row.scale (Row.quot (fun k => A (ix2 (j 2 : Fin 256) k)) fun k => g (ix2 0 k))

/-- The first half of the row of scales. -/
theorem row_lo (A : FVec Ideal S256x5120 .bf16) (g : FVec Ideal S1x5120 .bf16) (x : S1x1x128.Idx) (y : S1x1x256.Idx)
    (h : (y 2 : Fin 256).val = (x 2 : Fin 128).val) : k0_pay44 (scaleB A g) x = scaleRow A g y := by
  obtain ⟨l, rfl⟩ : ∃ l : Fin 128, x = ix3 0 0 l := ⟨x 2, by blk_ext⟩
  have e : (y 2 : Fin 256) = (⟨l.val, by omega⟩ : Fin 256) := Fin.ext h
  rw [scale_lo]
  unfold scaleRow
  rw [e]

/-- The second half of the row of scales. -/
theorem row_hi (A : FVec Ideal S256x5120 .bf16) (g : FVec Ideal S1x5120 .bf16) (x : S1x1x128.Idx) (y : S1x1x256.Idx)
    (h : (y 2 : Fin 256).val = 128 + (x 2 : Fin 128).val) : k0_pay45 (scaleB A g) x = scaleRow A g y := by
  obtain ⟨l, rfl⟩ : ∃ l : Fin 128, x = ix3 0 0 l := ⟨x 2, by blk_ext⟩
  have e : (y 2 : Fin 256) = (⟨128 + l.val, by omega⟩ : Fin 256) := Fin.ext h
  rw [scale_hi]
  unfold scaleRow
  rw [e]

variable (m : (ℓ : Loc nD τ sig) → Buf (Elt Ideal) ℓ)

/-- The first output block is the block of sums. -/
theorem out6 (c : Dev nD) (t : Fin cfg0.N) :
    (outsAt0 m c t).1 = sumB (iblk m c 0 t) (iblk m c 1 t) (iblk m c 2 t) (iblk m c 3 t) (iblk m c 4 t) := by
  funext y
  unfold outsAt0
  frame_out
  simp only [tile0, tile1, tile3, tile4, tile5, tile6, tile7, tile8, tile9]
  rw [piece _ _ _ _ _ 0 0 _ _ _ rfl, piece _ _ _ _ _ 1 512 _ _ _ rfl, piece _ _ _ _ _ 2 1024 _ _ _ rfl,
    piece _ _ _ _ _ 3 1536 _ _ _ rfl, piece _ _ _ _ _ 4 2048 _ _ _ rfl, piece _ _ _ _ _ 5 2560 _ _ _ rfl,
    piece _ _ _ _ _ 6 3072 _ _ _ rfl, piece _ _ _ _ _ 7 3584 _ _ _ rfl, piece _ _ _ _ _ 8 4096 _ _ _ rfl,
    piece _ _ _ _ _ 9 4608 _ _ _ rfl]
  generalize sumB (iblk m c 0 t) (iblk m c 1 t) (iblk m c 2 t) (iblk m c 3 t) (iblk m c 4 t) = S
  canon_tiles x h
  all_goals first
    | exact tile_read S _ _ _ h0 h1
    | exact tile_read S 0 _ _ h0 (h1.trans (Nat.zero_add _).symm)

/-- The other two: the block of codes, and the row of scales. -/
theorem out78 (c : Dev nD) (t : Fin cfg0.N) :
    (∀ y, (outsAt0 m c t).2.1 y
      = codeB (sumB (iblk m c 0 t) (iblk m c 1 t) (iblk m c 2 t) (iblk m c 3 t) (iblk m c 4 t)) (iblk m c 5 t) y)
    ∧ ∀ y, (outsAt0 m c t).2.2 y
      = scaleRow (sumB (iblk m c 0 t) (iblk m c 1 t) (iblk m c 2 t) (iblk m c 3 t) (iblk m c 4 t)) (iblk m c 5 t) y := by
  have h6 := out6 m c t
  unfold outsAt0 at h6 ⊢
  frame_out at h6 ⊢
  simp only [View.readCov_eq_canon', h6]
  rw [mean_chain]
  rw [piece _ _ _ _ _ 0 0 _ _ _ rfl, piece _ _ _ _ _ 1 512 _ _ _ rfl, piece _ _ _ _ _ 2 1024 _ _ _ rfl,
    piece _ _ _ _ _ 3 1536 _ _ _ rfl, piece _ _ _ _ _ 4 2048 _ _ _ rfl, piece _ _ _ _ _ 5 2560 _ _ _ rfl,
    piece _ _ _ _ _ 6 3072 _ _ _ rfl, piece _ _ _ _ _ 7 3584 _ _ _ rfl, piece _ _ _ _ _ 8 4096 _ _ _ rfl,
    piece _ _ _ _ _ 9 4608 _ _ _ rfl]
  clear h6
  generalize sumB (iblk m c 0 t) (iblk m c 1 t) (iblk m c 2 t) (iblk m c 3 t) (iblk m c 4 t) = S
  rw [mean_rows, rd_tile S 0 0 _ rfl, rd_tile S 1 512 _ rfl, rd_tile S 2 1024 _ rfl, rd_tile S 3 1536 _ rfl, rd_tile S 4 2048 _ rfl,
    rd_tile S 5 2560 _ rfl, rd_tile S 6 3072 _ rfl, rd_tile S 7 3584 _ rfl, rd_tile S 8 4096 _ rfl, rd_tile S 9 4608 _ rfl,
    ld_rtile (iblk m c 5 t) 0 0 _ rfl, ld_rtile (iblk m c 5 t) 1 512 _ rfl, ld_rtile (iblk m c 5 t) 2 1024 _ rfl,
    ld_rtile (iblk m c 5 t) 3 1536 _ rfl, ld_rtile (iblk m c 5 t) 4 2048 _ rfl, ld_rtile (iblk m c 5 t) 5 2560 _ rfl,
    ld_rtile (iblk m c 5 t) 6 3072 _ rfl, ld_rtile (iblk m c 5 t) 7 3584 _ rfl, ld_rtile (iblk m c 5 t) 8 4096 _ rfl, ld_rtile (iblk m c 5 t) 9 4608 _ rfl]
  rw [quot_chain, root_rows, quot_rows, scale_rows, inv_rows]
  simp only [code0, code1, code3, code4, code5, code6, code7, code8, code9, code_rows]
  refine ⟨fun y => ?_, fun y => ?_⟩
  · generalize codeB S (iblk m c 5 t) = C
    canon_tiles x h
    all_goals first
      | exact tile_read C _ _ _ h0 h1
      | exact tile_read C 0 _ _ h0 (h1.trans (Nat.zero_add _).symm)
  · canon_tiles x h
    · exact row_hi S _ x y h2
    · exact row_lo S _ x y h2

end Cert.KernelIdeal.Value

end
-- ==== Proof.Sums.lean ====
module

public import proofs.«01_k».proof.Proof.RowMath
public import proofs.«01_k».proof.Proof.Gen.KernelIdeal

/-! The three results as functions of the six arguments, token by token. -/

@[expose] public section

set_option maxRecDepth 16384

noncomputable section

open Idealize.ShloMosaic Idealize.ShloMosaic.TcCoe Idealize.SL.Sem
open Cert.KernelIdeal Cert.KernelIdeal.Gen

namespace Cert.Row

/-- The batch entry of a token, numbered from 0 to 6143. -/
def batch (r : Fin 6144) : Fin 4 := ⟨r.val / 1536, by omega⟩
/-- The place of a token within its batch entry. -/
def place (r : Fin 6144) : Fin 1536 := ⟨r.val % 1536, by omega⟩

/-- The sum of residual and scaled product: token `r`, column `j`. -/
def sums (a0 : Vec Ideal S4x1536x2560 .fp8e4m3) (a1 : Vec Ideal S4x1536x1 .f32) (a2 : Vec Ideal S2560x5120 .fp8e4m3)
    (a3 : Vec Ideal S5120 .f32) (a4 : Vec Ideal S4x1536x5120 .bf16) (r : Fin 6144) (j : Fin 5120) : EReal :=
  a4 (ix3 (batch r) (place r) j)
    + (∑ k : Fin 2560, a0 (ix3 (batch r) (place r) k) * a2 (ix2 k j)) * a1 (ix3 (batch r) (place r) 0) * a3 (ix1 j)

/-- The weights of the norm, as a row. -/
def weights (a5 : Vec Ideal S5120 .bf16) (j : Fin 5120) : EReal := a5 (ix1 j)

end Cert.Row

end
-- ==== Proof.Array.lean ====
module

public import proofs.«01_k».proof.Proof.Block
public import proofs.«01_k».proof.Proof.Sums

/-! What the three result arrays of the kernel hold after the run. -/

@[expose] public section

set_option maxRecDepth 16384

noncomputable section

open Idealize.ShloMosaic Idealize.ShloMosaic.TcCoe Idealize.SL.Sem
open Idealize.ShloMosaic.Pipeline (Dat)
open Cert.KernelIdeal Cert.KernelIdeal.Gen

namespace Cert.KernelIdeal.Value

/-- The index maps of the nine windows over the 24 grid points. -/
theorem idx : ∀ t : Fin cfg0.N, win0_0.index t = ![t.val, 0] ∧ win0_1.index t = ![t.val, 0, 0]
    ∧ win0_2.index t = ![0, 0] ∧ win0_3.index t = ![0, 0] ∧ win0_4.index t = ![t.val, 0] ∧ win0_5.index t = ![0, 0]
    ∧ win0_6.index t = ![t.val, 0] ∧ win0_7.index t = ![t.val, 0] ∧ win0_8.index t = ![t.val, 0, 0] ∧ t.val < 24 :=
  (by decide +kernel : ∀ t : Fin grid0.N, _)

variable (m : (ℓ : Loc nD τ sig) → Buf (Elt Ideal) ℓ)

/-- The token whose scale lies at row `b`, lane `l` of the array of scales. -/
def slot (b : Fin 24) (l : Fin 256) : Fin 6144 := ⟨b.val * 256 + l.val, by omega⟩

/-- The token of row `p` of the block of point `t`. -/
def token (t : Fin cfg0.N) (p : Fin 256) : Fin 6144 :=
  ⟨t.val * 256 + p.val, by have := (idx t).2.2.2.2.2.2.2.2.2; omega⟩

/-- The block of codes `x` at point `t` is the argument's, token by token. -/
theorem read0 (c : Dev nD) (t : Fin cfg0.N) (p : Fin 256) (k : Fin 2560) :
    (show Vec Ideal S256x2560 .fp8e4m3 from iblk m c 0 t) (ix2 p k)
      = m ((c : Thread nD τ).loc main_arg0) (ix3 (Row.batch (token t p)) (Row.place (token t p)) k) := by
  blk_simp [iblk, idx t]
  entry_read
  pointwise
  blk_ext [idx t, Row.batch, Row.place, token]

/-- The block of token scales is the argument's. -/
theorem read1 (c : Dev nD) (t : Fin cfg0.N) (p : Fin 256) :
    (show Vec Ideal S1x1x256 .f32 from iblk m c 1 t) (ix3 0 0 p)
      = m ((c : Thread nD τ).loc main_arg1) (ix3 (Row.batch (token t p)) (Row.place (token t p)) 0) := by
  blk_simp [iblk, idx t]
  entry_read
  pointwise
  blk_ext [idx t, Row.batch, Row.place, token]

/-- The block of weights is the argument. -/
theorem read2 (c : Dev nD) (t : Fin cfg0.N) (k : Fin 2560) (l : Fin 5120) :
    (show Vec Ideal S2560x5120 .fp8e4m3 from iblk m c 2 t) (ix2 k l) = m ((c : Thread nD τ).loc main_arg2) (ix2 k l) := by
  blk_ext [iblk, V, idx t]

/-- The block of column scales is the argument. -/
theorem read3 (c : Dev nD) (t : Fin cfg0.N) (l : Fin 5120) :
    (show Vec Ideal S1x5120 .f32 from iblk m c 3 t) (ix2 0 l) = m ((c : Thread nD τ).loc main_arg3) (ix1 l) := by
  blk_simp [iblk, idx t]
  entry_read
  pointwise
  blk_ext [idx t, Row.batch, Row.place, token]

/-- The block of residuals is the argument's, token by token. -/
theorem read4 (c : Dev nD) (t : Fin cfg0.N) (p : Fin 256) (l : Fin 5120) :
    (show Vec Ideal S256x5120 .bf16 from iblk m c 4 t) (ix2 p l)
      = m ((c : Thread nD τ).loc main_arg4) (ix3 (Row.batch (token t p)) (Row.place (token t p)) l) := by
  blk_simp [iblk, idx t]
  entry_read
  pointwise
  blk_ext [idx t, Row.batch, Row.place, token]

/-- The block of norm weights is the argument. -/
theorem read5 (c : Dev nD) (t : Fin cfg0.N) (l : Fin 5120) :
    (show Vec Ideal S1x5120 .bf16 from iblk m c 5 t) (ix2 0 l) = m ((c : Thread nD τ).loc main_arg5) (ix1 l) := by
  blk_simp [iblk, idx t]
  entry_read
  pointwise
  blk_ext [idx t, Row.batch, Row.place, token]

/-- The block of sums at point `t` holds the sums of its tokens. -/
theorem sumB_at (c : Dev nD) (t : Fin cfg0.N) (p : Fin 256) (l : Fin 5120) :
    sumB (iblk m c 0 t) (iblk m c 1 t) (iblk m c 2 t) (iblk m c 3 t) (iblk m c 4 t) (ix2 p l)
      = Row.sums (m ((c : Thread nD τ).loc main_arg0)) (m ((c : Thread nD τ).loc main_arg1))
          (m ((c : Thread nD τ).loc main_arg2)) (m ((c : Thread nD τ).loc main_arg3))
          (m ((c : Thread nD τ).loc main_arg4)) (token t p) l := by
  have e : ∀ (x0 : Vec Ideal S256x2560 .fp8e4m3) (x1 : Vec Ideal S1x1x256 .f32) (x2 : Vec Ideal S2560x5120 .fp8e4m3)
      (x3 : Vec Ideal S1x5120 .f32) (x4 : Vec Ideal S256x5120 .bf16), sumB x0 x1 x2 x3 x4 (ix2 p l)
      = (x4 (ix2 p l) + (∑ k : Fin 2560, x0 (ix2 p k) * x2 (ix2 k l)) * x1 (ix3 0 0 p) * x3 (ix2 0 l) : EReal) :=
    fun _ _ _ _ _ => rfl
  refine (e _ _ _ _ _).trans ?_
  unfold Row.sums
  exact congrArg₂ (· + ·) (read4 m c t p l) (congrArg₂ (· * ·) (congrArg₂ (· * ·)
    (Finset.sum_congr rfl fun k _ => congrArg₂ (· * ·) (read0 m c t p k) (read2 m c t k l)) (read1 m c t p))
    (read3 m c t l))

/-- The sums of token `r`, from the six arguments of device `c`. -/
abbrev row (c : Dev nD) (r : Fin 6144) : Fin 5120 → EReal :=
  Row.sums (m ((c : Thread nD τ).loc main_arg0)) (m ((c : Thread nD τ).loc main_arg1))
          (m ((c : Thread nD τ).loc main_arg2)) (m ((c : Thread nD τ).loc main_arg3))
          (m ((c : Thread nD τ).loc main_arg4)) r

/-- The norm weights of device `c`. -/
abbrev wts (c : Dev nD) : Fin 5120 → EReal := Row.weights (m ((c : Thread nD τ).loc main_arg5))

/-- A row of the block of sums is the row of its token. -/
theorem sumB_row (c : Dev nD) (t : Fin cfg0.N) (p : Fin 256) :
    (fun k => sumB (iblk m c 0 t) (iblk m c 1 t) (iblk m c 2 t) (iblk m c 3 t) (iblk m c 4 t) (ix2 p k))
      = row m c (token t p) := funext fun k => sumB_at m c t p k

/-- The row of norm weights is the argument's. -/
theorem g_row (c : Dev nD) (t : Fin cfg0.N) :
    (fun k => (show Vec Ideal S1x5120 .bf16 from iblk m c 5 t) (ix2 0 k)) = wts m c := funext fun k => read5 m c t k

/-- The first result: the sums. -/
theorem final6 (c : Dev nD) : (dats m 0 c).arrAt 6 cfg0.N = fun y => row m c (y 0) (y 1) := by
  refine (dats m 0 c).arrAt_eq_of_covers 6 _ (by decide +kernel) fun t hf y => ?_
  blk_simp
  rw [after0_6, out6]
  obtain ⟨p, l, rfl⟩ : ∃ (p : Fin 256) (l : Fin 5120), y = ix2 p l := ⟨y 0, y 1, by blk_ext⟩
  have e0 : (win0_6.blk t).view.emb (ix2 p l) 0 = token t p := Fin.ext (by blk_simp [idx t, token])
  have e1 : (win0_6.blk t).view.emb (ix2 p l) 1 = l := Fin.ext (by blk_simp [idx t])
  rw [e0, e1]
  exact sumB_at m c t p l

/-- The second result: the codes. -/
theorem final7 (c : Dev nD) : (dats m 0 c).arrAt 7 cfg0.N
    = fun y => Row.code (Row.normed (row m c (y 0)) (wts m c) (y 1)) (Row.inv (Row.quot (row m c (y 0)) (wts m c))) := by
  refine (dats m 0 c).arrAt_eq_of_covers 7 _ (by decide +kernel) fun t hf y => ?_
  blk_simp
  rw [after0_7]
  obtain ⟨p, l, rfl⟩ : ∃ (p : Fin 256) (l : Fin 5120), y = ix2 p l := ⟨y 0, y 1, by blk_ext⟩
  have e0 : (win0_7.blk t).view.emb (ix2 p l) 0 = token t p := Fin.ext (by blk_simp [idx t, token])
  have e1 : (win0_7.blk t).view.emb (ix2 p l) 1 = l := Fin.ext (by blk_simp [idx t])
  rw [e0, e1, ← sumB_row, ← g_row m c t]
  exact (out78 m c t).1 (ix2 p l)

/-- The third result: the scales. -/
theorem final8 (c : Dev nD) : (dats m 0 c).arrAt 8 cfg0.N
    = fun y => Row.scale (Row.quot (row m c (slot (y 0) (y 2))) (wts m c)) := by
  refine (dats m 0 c).arrAt_eq_of_covers 8 _ (by decide +kernel) fun t hf y => ?_
  blk_simp
  rw [after0_8]
  obtain ⟨p, rfl⟩ : ∃ (p : Fin 256), y = ix3 0 0 p := ⟨y 2, by blk_ext⟩
  have e0 : slot ((win0_8.blk t).view.emb (ix3 0 0 p) 0) ((win0_8.blk t).view.emb (ix3 0 0 p) 2) = token t p :=
    Fin.ext (by blk_simp [idx t, token, slot]; rfl)
  rw [e0, ← sumB_row, ← g_row m c t]
  exact (out78 m c t).2 (ix3 0 0 p)

end Cert.KernelIdeal.Value

end
-- ==== Proof.Plain.lean ====
module

public import proofs.«01_k».proof.Proof.Sums
public import proofs.«01_k».proof.Proof.Gen.ReferenceIdeal.Value
public import Idealize.ShloMosaic.Lib.Pointwise
public import Idealize.ShloMosaic.PureOps.Ideal.Laws
public import Idealize.ShloMosaic.Lib.Pipeline.ValueKit

/-! What the reference computes, token by token. -/

@[expose] public section

set_option maxRecDepth 16384

noncomputable section

open Idealize.ShloMosaic Idealize.ShloMosaic.TcCoe Idealize.SL.Sem
open Cert.ReferenceIdeal Cert.ReferenceIdeal.Gen

namespace Cert.ReferenceIdeal.Value

variable (a0 : Vec Ideal S4x1536x2560 .fp8e4m3) (a1 : Vec Ideal S4x1536x1 .f32) (a2 : Vec Ideal S2560x5120 .fp8e4m3)
  (a3 : Vec Ideal S5120 .f32) (a4 : Vec Ideal S4x1536x5120 .bf16) (a5 : Vec Ideal S5120 .bf16)

/-- Division by 5120 is multiplication by its reciprocal. -/
theorem div_width (s : EReal) : Ideal.div s (Ideal.ofBits .f32 0x45A00000#32) = s * ((1 / 5120 : ℝ) : EReal) := by
  have e : Ideal.ofBits .f32 0x45A00000#32 = ((5120 : ℝ) : EReal) := by
    simp [Ideal.ofBits, Ideal.ieee, -EReal.coe_mul]
    norm_num
  rw [e]
  exact Ideal.div_coe (y := (5120 : ℝ)) (by norm_num) s

/-- The sums of the reference. -/
theorem sums_at (r : Fin 6144) (j : Fin 5120) :
    k0_pay4 a0 a2 a1 a3 a4 (ix2 r j) = Row.sums a0 a1 a2 a3 a4 r j := by
  pointwise [k0_pay4]
  rfl

/-- The normalised values of the reference. -/
theorem normed_at (r : Fin 6144) (j : Fin 5120) :
    k0_pay5 a0 a2 a1 a3 a4 a5 (ix2 r j) = Row.normed (Row.sums a0 a1 a2 a3 a4 r) (Row.weights a5) j := by
  have hs : ∀ k : Fin 5120, k0_pay4 a0 a2 a1 a3 a4 (ix2 r k) = Row.sums a0 a1 a2 a3 a4 r k := sums_at a0 a1 a2 a3 a4 r
  unfold k0_pay5
  generalize k0_pay4 a0 a2 a1 a3 a4 = S at hs
  pointwise
  simp only [hs, div_width]
  unfold Row.normed Row.invRms Row.meanSq Row.weights
  rfl

/-- A row's maximum, as the reference takes it, is the fold of `max` over the row. -/
theorem max_row (T : FVec Ideal S6144x5120 .f32) (h : S6144x5120.Reduces [1] S6144) (hφ : FKind.Formats .f32)
    (hacc : (0xFF800000#32 : BitVec (FTy.f32).bits) = FKind.maximumf.neutral .f32 hφ) (r : Fin 6144) :
    multiReduction .maximumf [1] S6144 T 0xFF800000#32 h hφ hacc (ix1 r)
      = Finset.fold max (⊥ : EReal) (fun k : Fin 5120 => T (ix2 r k)) Finset.univ := by
  refine (Ideal.multiReduction_maximumf_single T _ h hφ hacc (ix1 r)).trans ?_
  have e : (FloatOps.ofBits (F := Ideal) .f32 0xFF800000#32 : EReal) = ⊥ := by
    show Ideal.ofBits .f32 0xFF800000#32 = ⊥
    simp [Ideal.ofBits, Ideal.ieee]
  rw [e]
  refine congrArg (fun f => Finset.fold max (⊥ : EReal) f Finset.univ) (funext fun k => ?_)
  refine congrArg T (funext fun a => Fin.ext ?_)
  fin_cases a
  · rfl
  · rfl

/-- A product with the constant nearest to 1/448, at an index. -/
theorem mul_const (M : FVec Ideal S6144 .f32) (c : Ideal .f32) (r : Fin 6144) :
    mulf M (broadcast S6144 c) (ix1 r) = (M (ix1 r) * c : EReal) := rfl

/-- The reference's quotient over any array: the row's largest magnitude times the constant. -/
theorem quot_of (S : FVec Ideal S6144x5120 .f32) (h : S6144x5120.Reduces [1] S6144) (hφ : FKind.Formats .f32)
    (hacc : (0xFF800000#32 : BitVec (FTy.f32).bits) = FKind.maximumf.neutral .f32 hφ) (r : Fin 6144) :
    mulf (multiReduction .maximumf [1] S6144 (absf S) 0xFF800000#32 h hφ hacc)
        (broadcast S6144 (Scalar.ofBits .f32 0x3B124925#32)) (ix1 r)
      = Finset.fold max (⊥ : EReal) (fun k : Fin 5120 => max (S (ix2 r k)) (-S (ix2 r k))) Finset.univ
        * Ideal.ofBits .f32 0x3B124925#32 := by
  have e := max_row (absf S) h hφ hacc r
  generalize multiReduction .maximumf [1] S6144 (absf S) 0xFF800000#32 h hφ hacc = M at e ⊢
  have hf : (fun k : Fin 5120 => absf S (ix2 r k)) = fun k : Fin 5120 => (max (S (ix2 r k)) (-S (ix2 r k)) : EReal) :=
    funext fun k => rfl
  rw [hf] at e
  generalize Finset.fold max (⊥ : EReal) (fun k : Fin 5120 => (max (S (ix2 r k)) (-S (ix2 r k)) : EReal)) Finset.univ = f at e ⊢
  exact (mul_const M _ r).trans (congrArg (fun x : EReal => x * Ideal.ofBits .f32 0x3B124925#32) e)

/-- The quotient of the reference: the largest magnitude of a token over 448. -/
theorem quot_at (r : Fin 6144) :
    k0_pay6 a0 a2 a1 a3 a4 a5 (ix1 r) = Row.quot (Row.sums a0 a1 a2 a3 a4 r) (Row.weights a5) := by
  have hs := normed_at a0 a1 a2 a3 a4 a5 r
  unfold k0_pay6
  generalize k0_pay5 a0 a2 a1 a3 a4 a5 = S at hs
  refine (quot_of S _ _ _ r).trans ?_
  unfold Row.quot Row.absMax
  simp only [hs]

/-- The choice of exponent at an index is `Row.expo`, once its four constants are the ones meant. -/
theorem expo_of (S : FVec Ideal S6144 .f32) (t l o z : Ideal .f32) (r : Fin 6144)
    (ht : (t : EReal) = Ideal.ofBits .f32 0x00800000#32) (hl : (l : EReal) = ((Real.log 2 : ℝ) : EReal))
    (ho : (o : EReal) = 1) (hz : (z : EReal) = 0) :
    select (cmpf .olt S (broadcast S6144 t)) (broadcast S6144 z)
        (addf (floor (divf (log S) (broadcast S6144 l))) (broadcast S6144 o)) (ix1 r) = Row.expo (S (ix1 r)) := by
  pointwise
  unfold Row.expo
  rw [ht, hl, ho, hz]

/-- The exponent of the reference's scale. -/
theorem expo_at (r : Fin 6144) :
    k0_pay1 (k0_pay7 a0 a2 a1 a3 a4 a5) (k0_pay8 a0 a2 a1 a3 a4 a5) (ix1 r)
      = Row.expo (Row.quot (Row.sums a0 a1 a2 a3 a4 r) (Row.weights a5)) := by
  have hs := quot_at a0 a1 a2 a3 a4 a5 r
  unfold k0_pay7 k0_pay8
  generalize k0_pay6 a0 a2 a1 a3 a4 a5 = S at hs
  refine (expo_of S _ _ _ _ r rfl (IdealRules.named_const.ideal_named_scalar _ _ _ _ rfl) ?_ ?_).trans ?_
  · show Ideal.ofBits .f32 0x3F800000#32 = 1
    simp [Ideal.ofBits, Ideal.ieee, -EReal.coe_mul]
    norm_num
  · show Ideal.ofBits .f32 0x00000000#32 = 0
    simp [Ideal.ofBits, Ideal.ieee]
  · rw [hs]

/-- The scale as the reference places it. -/
theorem lane_of (E : FVec Ideal S6144 .f32) (b : Fin 24) (l : Fin 256) :
    shapeCast S24x1x256 (exp2 E) shapeCasts_S6144_S24x1x256 (ix3 b 0 l)
      = Ideal.exp2 (E (ix1 (⟨b.val * 256 + l.val, by omega⟩ : Fin 6144))) := by
  pointwise
  rfl

/-- The third result of the reference. -/
theorem scale_at (b : Fin 24) (l : Fin 256) :
    k0_pay3 (k0_pay7 a0 a2 a1 a3 a4 a5) (k0_pay8 a0 a2 a1 a3 a4 a5) (ix3 b 0 l)
      = Ideal.exp2 (Row.expo (Row.quot (Row.sums a0 a1 a2 a3 a4 ⟨b.val * 256 + l.val, by omega⟩) (Row.weights a5))) := by
  rw [← expo_at]
  unfold k0_pay3
  exact lane_of _ b l

/-- A code as the reference computes it, for any four constants. -/
theorem code_of (N : FVec Ideal S6144x5120 .f32) (E : FVec Ideal S6144 .f32) (z a b : Ideal .f32) (r : Fin 6144) (j : Fin 5120)
    (hz : (z : EReal) = 0) :
    truncf .fp8e4m3 (minimumf (broadcast S6144x5120 b) (maximumf (broadcast S6144x5120 a) (mulf N
        (broadcastTo S6144x5120 (shapeCast S6144x1 (exp2 (subf (broadcast S6144 z) E)) shapeCasts_S6144_S6144x1)
          broadcasts_S6144x1_S6144x5120)))) bitsLt_fp8e4m3_f32 (ix2 r j)
      = (min b (max a (N (ix2 r j) * Ideal.exp2 (0 - E (ix1 r)))) : EReal) := by
  pointwise
  rw [hz]
  rfl

/-- The second result of the reference. -/
theorem code_at (r : Fin 6144) (j : Fin 5120) :
    k0_pay2 (k0_pay5 a0 a2 a1 a3 a4 a5) (k0_pay7 a0 a2 a1 a3 a4 a5) (k0_pay8 a0 a2 a1 a3 a4 a5) (ix2 r j)
      = Row.code (Row.normed (Row.sums a0 a1 a2 a3 a4 r) (Row.weights a5) j)
          (Ideal.exp2 (0 - Row.expo (Row.quot (Row.sums a0 a1 a2 a3 a4 r) (Row.weights a5)))) := by
  rw [← expo_at, ← normed_at]
  unfold k0_pay2
  generalize k0_pay1 (k0_pay7 a0 a2 a1 a3 a4 a5) (k0_pay8 a0 a2 a1 a3 a4 a5) = E
  generalize k0_pay5 a0 a2 a1 a3 a4 a5 = N
  refine (code_of N E _ _ _ r j ?_).trans ?_
  · show Ideal.ofBits .f32 0x00000000#32 = 0
    simp [Ideal.ofBits, Ideal.ieee]
  · rfl

/-- The mask and the logarithm that the run names are those of the whole arrays. -/
theorem named_eq : k0_pay9 a0 a1 a2 a3 a4 a5 = k0_pay7 a0 a2 a1 a3 a4 a5
    ∧ k0_pay10 a0 a1 a2 a3 a4 a5 = k0_pay8 a0 a2 a1 a3 a4 a5 := by
  unfold k0_pay9 k0_pay10
  have e0 : View.ld a0 r0_0 = a0 := View.ld_unit_zero hz0 _ _
  have e1 : View.ld a1 r0_2 = a1 := View.ld_unit_zero hz1 _ _
  have e2 : View.ld a2 r0_1 = a2 := View.ld_unit_zero hz2 _ _
  have e3 : View.ld a3 r0_3 = a3 := View.ld_unit_zero hz3 _ _
  have e4 : View.ld a4 r0_4 = a4 := View.ld_unit_zero hz4 _ _
  have e5 : View.ld a5 r0_3 = a5 := View.ld_unit_zero hz5 _ _
  rw [e0, e1, e2, e3, e4, e5]
  exact ⟨rfl, rfl⟩

/-- The second result, as the run names it. -/
theorem codes_at (r : Fin 6144) (j : Fin 5120) :
    G7 a0 a1 a2 a3 a4 a5 (ix2 r j)
      = Row.code (Row.normed (Row.sums a0 a1 a2 a3 a4 r) (Row.weights a5) j)
          (Ideal.exp2 (0 - Row.expo (Row.quot (Row.sums a0 a1 a2 a3 a4 r) (Row.weights a5)))) := by
  refine Eq.trans ?_ (code_at a0 a1 a2 a3 a4 a5 r j)
  unfold G7
  rw [(named_eq a0 a1 a2 a3 a4 a5).1, (named_eq a0 a1 a2 a3 a4 a5).2]

/-- The third result, as the run names it. -/
theorem scales_at (b : Fin 24) (l : Fin 256) :
    G8 a0 a1 a2 a3 a4 a5 (ix3 b 0 l)
      = Ideal.exp2 (Row.expo (Row.quot (Row.sums a0 a1 a2 a3 a4 ⟨b.val * 256 + l.val, by omega⟩) (Row.weights a5))) := by
  refine Eq.trans ?_ (scale_at a0 a1 a2 a3 a4 a5 b l)
  unfold G8
  rw [(named_eq a0 a1 a2 a3 a4 a5).1, (named_eq a0 a1 a2 a3 a4 a5).2]

end Cert.ReferenceIdeal.Value

end
-- ==== Proof.Equal.lean ====
module

public import proofs.«01_k».proof.Proof.Array
public import proofs.«01_k».proof.Proof.Plain
public import proofs.«01_k».proof.Proof.Gen.Pre_gamma_finite
public import proofs.«01_k».proof.Defs

/-! The three results of the kernel are the three results of the reference. -/

@[expose] public section

set_option maxRecDepth 16384

noncomputable section

open Idealize.ShloMosaic Idealize.ShloMosaic.TcCoe Idealize.SL.Sem
open Cert.KernelIdeal Cert.KernelIdeal.Gen

namespace Cert.Equal

/-- The precondition, element by element: no norm weight exceeds the largest finite number of its format. -/
theorem weights_le (a0 : Vec Ideal S4x1536x2560 .fp8e4m3) (a1 : Vec Ideal S4x1536x1 .f32) (a2 : Vec Ideal S2560x5120 .fp8e4m3)
    (a3 : Vec Ideal S5120 .f32) (a4 : Vec Ideal S4x1536x5120 .bf16) (a5 : Vec Ideal S5120 .bf16)
    (h : Cert.Pre_gamma_finite.fn (F := Ideal) a0 a1 a2 a3 a4 a5 = fun _ => 1#1) (j : Fin 5120) :
    max (Row.weights a5 j) (-Row.weights a5 j) ≤ Ideal.ofBits .bf16 0x7F7F#16 := by
  have hj := congrFun h (ix1 j)
  pointwise [Cert.Pre_gamma_finite.fn] at hj
  unfold Row.weights
  generalize Ideal.ofBits .bf16 0x7F7F#16 = B at hj ⊢
  by_contra hc
  rw [decide_eq_false (by exact hc)] at hj
  exact absurd hj (by decide)

variable (m : (ℓ : Loc nD τ sig) → Buf (Elt Ideal) ℓ)

/-- The six arguments of device `c`, handed to a function of them. -/
abbrev args {β : Type} (c : Dev nD) (f : Vec Ideal S4x1536x2560 .fp8e4m3 → Vec Ideal S4x1536x1 .f32 → Vec Ideal S2560x5120 .fp8e4m3
    → Vec Ideal S5120 .f32 → Vec Ideal S4x1536x5120 .bf16 → Vec Ideal S5120 .bf16 → β) : β :=
  f (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The first result. -/
theorem eq6 (c : Dev nD) : (dats m 0 c).arrAt 6 cfg0.N = args m c Cert.ReferenceIdeal.Value.G6 := by
  rw [Cert.KernelIdeal.Value.final6]
  funext y
  obtain ⟨r, j, rfl⟩ : ∃ (r : Fin 6144) (j : Fin 5120), y = ix2 r j := ⟨y 0, y 1, by blk_ext⟩
  exact (Cert.ReferenceIdeal.Value.sums_at _ _ _ _ _ r j).symm

/-- The precondition bounds every token's quotient. -/
theorem quot_bound (hpre : ∀ c : Dev nD, args m c (Cert.Pre_gamma_finite.fn (F := Ideal)) = fun _ => 1#1)
    (c : Dev nD) (r : Fin 6144) :
    Row.quot (Cert.KernelIdeal.Value.row m c r) (Cert.KernelIdeal.Value.wts m c) < (((2 : ℝ) ^ (126 : ℤ) : ℝ) : EReal) :=
  Row.quot_lt _ _ (weights_le _ _ _ _ _ _ (hpre c))

/-- The second result. -/
theorem eq7 (hpre : ∀ c : Dev nD, args m c (Cert.Pre_gamma_finite.fn (F := Ideal)) = fun _ => 1#1) (c : Dev nD) :
    (dats m 0 c).arrAt 7 cfg0.N = args m c Cert.ReferenceIdeal.Value.G7 := by
  rw [Cert.KernelIdeal.Value.final7]
  funext y
  obtain ⟨r, j, rfl⟩ : ∃ (r : Fin 6144) (j : Fin 5120), y = ix2 r j := ⟨y 0, y 1, by blk_ext⟩
  refine Eq.trans ?_ (Cert.ReferenceIdeal.Value.codes_at _ _ _ _ _ _ r j).symm
  exact congrArg (Row.code _) (Row.scale_inv _ (quot_bound m hpre c _)).2

/-- The third result. -/
theorem eq8 (hpre : ∀ c : Dev nD, args m c (Cert.Pre_gamma_finite.fn (F := Ideal)) = fun _ => 1#1) (c : Dev nD) :
    (dats m 0 c).arrAt 8 cfg0.N = args m c Cert.ReferenceIdeal.Value.G8 := by
  rw [Cert.KernelIdeal.Value.final8]
  funext y
  obtain ⟨b, l, rfl⟩ : ∃ (b : Fin 24) (l : Fin 256), y = ix3 b 0 l := ⟨y 0, y 2, by blk_ext⟩
  refine Eq.trans ?_ (Cert.ReferenceIdeal.Value.scales_at _ _ _ _ _ _ b l).symm
  exact (Row.scale_inv _ (quot_bound m hpre c _)).1

end Cert.Equal

end
-- ==== Proof.lean ====
module

public import proofs.«01_k».proof.Proof.Gen.KernelIdeal.Value
public import proofs.«01_k».proof.Proof.Gen.ReferenceIdeal.Value
public import proofs.«01_k».proof.Defs
public import proofs.«01_k».proof.Proof.Equal
public import Idealize.ShloMosaic.Lib.Claim
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Reference
public import proofs.«01_k».proof.Proof.Gen.Reference.Skeleton
public import proofs.«01_k».proof.Proof.Gen.Reference.Launch
public import proofs.«01_k».proof.Proof.Gen.Reference.Points
public import proofs.«01_k».proof.Proof.Gen.Reference.Frame
public import proofs.«01_k».proof.Proof.Gen.Pre_gamma_finite
public import Idealize.ShloMosaic.Adequacy
public import Idealize.ShloMosaic.Init

@[expose] public section

noncomputable section

namespace Cert.Proof

open Idealize.ShloMosaic Idealize.SL.Sem Cert.Kernel

/-- Kernel and reference end with equal results, all three. -/
theorem algebraic : Cert.algebraic_KernelIdeal_ReferenceIdeal_pre_gamma_finite
    (hKernelIdeal := Cert.KernelIdeal.Gen.facts) (hReferenceIdeal := Cert.ReferenceIdeal.Gen.facts)
    (hPre_gamma_finite := Cert.Pre_gamma_finite.Gen.facts) := by
  intro m g m' g' hpre hagree
  refine ⟨fun c => (Cert.KernelIdeal.Gen.dats m 0 c).arrAt 6 Cert.KernelIdeal.cfg0.N,
    fun c => (Cert.KernelIdeal.Gen.dats m 0 c).arrAt 7 Cert.KernelIdeal.cfg0.N,
    fun c => (Cert.KernelIdeal.Gen.dats m 0 c).arrAt 8 Cert.KernelIdeal.cfg0.N,
    Cert.KernelIdeal.Value.run_blocks m g, ?_⟩
  refine (θ_run Cert.ReferenceIdeal.defs _ _).mono (fun r h c => ?_) (Cert.ReferenceIdeal.Value.run m' g')
  obtain ⟨h0, h1, h2, k0, k1, k2, k3, k4, k5⟩ := h c
  obtain ⟨e0, e1, e2, e3, e4, e5⟩ := hagree c
  rw [e0, e1, e2, e3, e4, e5] at h0 h1 h2
  exact ⟨h0.trans (Cert.Equal.eq6 m c).symm, h1.trans (Cert.Equal.eq7 m hpre c).symm,
    h2.trans (Cert.Equal.eq8 m hpre c).symm, k0, k1, k2, k3, k4, k5⟩

/-- Every claim of the certificate: the frames, the two named constants, and the equality of the results. -/
theorem claim : Cert.Claim :=
  ⟨Cert.Kernel.Gen.facts, Cert.KernelIdeal.Gen.facts, Cert.ReferenceIdeal.Gen.facts, Cert.Reference.Gen.facts,
    Cert.Pre_gamma_finite.Gen.facts,
    fun m ρ _ => Cert.Kernel.Gen.frame m ρ,
    fun m ρ _ => Cert.KernelIdeal.Gen.frame m ρ,
    fun m ρ _ => Cert.KernelIdeal.Gen.frame m ρ,
    fun m ρ _ => Cert.ReferenceIdeal.Gen.frame m ρ,
    fun m ρ _ => Cert.ReferenceIdeal.Gen.frame m ρ,
    fun m ρ _ => Cert.Reference.Gen.frame m ρ,
    IdealRules.named_const.statement Cert.KernelIdeal.κ "inv_d" .f32 0x394CCCCD#32 ((1 / 5120 : ℝ) : EReal) rfl,
    IdealRules.named_const.statement Cert.ReferenceIdeal.κ "ln2" .f32 0x3F317218#32 ((Real.log 2 : ℝ) : EReal) rfl,
    algebraic⟩

end Cert.Proof

end
